-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_bounded_KernelIdeal [hPre_scales_bounded_KernelIdeal : Cert.Pre_scales_bounded_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scales_bounded_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_bounded_ReferenceIdeal [hPre_scales_bounded_ReferenceIdeal : Cert.Pre_scales_bounded_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_bounded_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_scales_bounded_KernelIdeal [hKernelIdeal : Cert.KernelIdeal.Facts] [hPre_scales_bounded_KernelIdeal : Cert.Pre_scales_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_bounded_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_scales_bounded_ReferenceIdeal [hReferenceIdeal : Cert.ReferenceIdeal.Facts] [hPre_scales_bounded_ReferenceIdeal : Cert.Pre_scales_bounded_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_bounded_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_scales_bounded_KernelIdeal [hKernelIdeal : Cert.KernelIdeal.Facts] [hReferenceIdeal : Cert.ReferenceIdeal.Facts] [hPre_scales_bounded_KernelIdeal : Cert.Pre_scales_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_bounded_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_scales_bounded_KernelIdeal : Cert.Pre_scales_bounded_KernelIdeal.Facts) (hPre_scales_bounded_ReferenceIdeal : Cert.Pre_scales_bounded_ReferenceIdeal.Facts),
    quiescent_Kernel (hKernel := hKernel)
    ∧ quiescent_KernelIdeal (hKernelIdeal := hKernelIdeal)
    ∧ quiescent_KernelIdeal_pre_scales_bounded_KernelIdeal (hKernelIdeal := hKernelIdeal) (hPre_scales_bounded_KernelIdeal := hPre_scales_bounded_KernelIdeal)
    ∧ quiescent_ReferenceIdeal (hReferenceIdeal := hReferenceIdeal)
    ∧ quiescent_ReferenceIdeal_pre_scales_bounded_ReferenceIdeal (hReferenceIdeal := hReferenceIdeal) (hPre_scales_bounded_ReferenceIdeal := hPre_scales_bounded_ReferenceIdeal)
    ∧ preserves_Kernel_KernelIdeal
    ∧ algebraic_KernelIdeal_ReferenceIdeal_pre_scales_bounded_KernelIdeal (hKernelIdeal := hKernelIdeal) (hReferenceIdeal := hReferenceIdeal) (hPre_scales_bounded_KernelIdeal := hPre_scales_bounded_KernelIdeal)
-- ==== Pre_scales_bounded_KernelIdeal.lean ====
abbrev S4096x256 : Shape := ⟨2, ![4096, 256]⟩
abbrev S256x2048 : Shape := ⟨2, ![256, 2048]⟩
abbrev S1 : Shape := ⟨1, ![1]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel

variable [Facts]

def fn {F : FTy → Type} [FloatOps F] (main_arg0 : IVec S4096x256 8) (main_arg1 : IVec S256x2048 8) (main_arg2 : FVec F S1 .f32) (main_arg3 : FVec F S1 .f32) : IVec S_ 1 :=
  let main_v0 : FVec F S1 .f32 := mulf main_arg2 main_arg3
  let main_v1 : FVec F S1 .f32 := Host.absf main_v0
  let main_cst : FVec F S_ .f32 := constant S_ .f32 0x7F800000#32
  let main_v2 : FVec F S1 .f32 := broadcastInDim S1 ![] bcast_S_S1 main_cst
  let main_v3 : IVec S1 1 := cmpf .olt main_v1 main_v2
  let main_c : IVec S_ 1 := constantI S_ 1 1#1
  let main_v4 : IVec S_ 1 := (fun x v => Host.reduce IntOp.andi x v reducesTo_S1_S_d0 h_S_) main_v3 main_c
  main_v4
-- ==== Pre_scales_bounded_ReferenceIdeal.lean ====
abbrev S4096x4096 : Shape := ⟨2, ![4096, 4096]⟩
abbrev S4096x2048 : Shape := ⟨2, ![4096, 2048]⟩
abbrev S1 : Shape := ⟨1, ![1]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel

variable [Facts]

def fn {F : FTy → Type} [FloatOps F] (main_arg0 : IVec S4096x4096 8) (main_arg1 : IVec S4096x2048 8) (main_arg2 : FVec F S1 .f32) (main_arg3 : FVec F S1 .f32) : IVec S_ 1 :=
  let main_v0 : FVec F S1 .f32 := mulf main_arg2 main_arg3
  let main_v1 : FVec F S1 .f32 := Host.absf main_v0
  let main_cst : FVec F S_ .f32 := constant S_ .f32 0x7F800000#32
  let main_v2 : FVec F S1 .f32 := broadcastInDim S1 ![] bcast_S_S1 main_cst
  let main_v3 : IVec S1 1 := cmpf .olt main_v1 main_v2
  let main_c : IVec S_ 1 := constantI S_ 1 1#1
  let main_v4 : IVec S_ 1 := (fun x v => Host.reduce IntOp.andi x v reducesTo_S1_S_d0 h_S_) main_v3 main_c
  main_v4
-- ==== Kernel.lean ====
abbrev S4096x256 : Shape := ⟨2, ![4096, 256]⟩
abbrev S256x2048 : Shape := ⟨2, ![256, 2048]⟩
abbrev S1 : Shape := ⟨1, ![1]⟩
abbrev S4096x2048 : Shape := ⟨2, ![4096, 2048]⟩
abbrev S4x16x256x512 : Shape := ⟨4, ![4, 16, 256, 512]⟩
abbrev S4x2x256x512 : Shape := ⟨4, ![4, 2, 256, 512]⟩
abbrev S4x16 : Shape := ⟨2, ![4, 16]⟩
abbrev S4x15 : Shape := ⟨2, ![4, 15]⟩
abbrev S_ : Shape := ⟨0, ![]⟩
abbrev S256x256 : Shape := ⟨2, ![256, 256]⟩
abbrev S256x512 : Shape := ⟨2, ![256, 512]⟩
abbrev S1x1x256x512 : Shape := ⟨4, ![1, 1, 256, 512]⟩
abbrev S1x1 : Shape := ⟨2, ![1, 1]⟩

abbrev nBuf : Space → Nat
  | .hbm => 5
  | .vmem => 4
  | .smem => 2
  | _ => 0

abbrev bufTy : (tb : Table) → Fin (tcTables nBuf tb) → BufTy
  | .hbm, ⟨0, _⟩ => ⟨S4096x256, .i8⟩
  | .hbm, ⟨1, _⟩ => ⟨S256x2048, .i8⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x256, .i8⟩
  | .local _ .vmem, ⟨1, _⟩ => ⟨S256x2048, .i8⟩
  | .local _ .vmem, ⟨2, _⟩ => ⟨S4x16x256x512, .bf16⟩
  | .local _ .vmem, ⟨3, _⟩ => ⟨S4x2x256x512, .f32⟩
  | .local _ .smem, ⟨0, _⟩ => ⟨S1, .f32⟩
  | .local _ .smem, ⟨1, _⟩ => ⟨S1, .f32⟩
  | _, _ => ⟨S4096x256, .i8⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 2 → Bool
  | ⟨0, _⟩ => false
  | ⟨1, _⟩ => true
  | _ => false

abbrev dmaSemScoped : Fin 308 → Bool
  | ⟨i, _⟩ => dmaSemScopedAt i

abbrev sig : RefSig :=
  (ofTc nBuf bufTy 2 308 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v13 : BitVec 32 := Scalar.muli v2 c256_i32
  let v14 : Index := Scalar.indexCast v13
  let c0 : Index := 0#32
  ![v14.toNat, 0]
def k0_dev3 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_26 : BitVec 32 := 1#32
  let v32 : BitVec 32 := Scalar.muli v7 c1_i32_26
  let v33 : BitVec 32 := Scalar.addi c0_i32_27 v32
  v33.toNat
def k0_dev4 (d0 : Dev nD) : Nat :=
  let c0_i32_50 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_49 : BitVec 32 := 1#32
  let v61 : BitVec 32 := Scalar.muli v7 c1_i32_49
  let v62 : BitVec 32 := Scalar.addi c0_i32_50 v61
  v62.toNat
def k0_dev5 (d0 : Dev nD) : Nat :=
  let c0_i32_73 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_72 : BitVec 32 := 1#32
  let v90 : BitVec 32 := Scalar.muli v5 c1_i32_72
  let v91 : BitVec 32 := Scalar.addi c0_i32_73 v90
  v91.toNat
def k0_dev6 (d0 : Dev nD) : Nat :=
  let c0_i32_95 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_94 : BitVec 32 := 1#32
  let v119 : BitVec 32 := Scalar.muli v5 c1_i32_94
  let v120 : BitVec 32 := Scalar.addi c0_i32_95 v119
  v120.toNat
def k0_off2 (d0 : Dev nD) (c1_i32_118 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v140 : BitVec 32 := Scalar.subi v2 c1_i32_118
  let c32_i32 : BitVec 32 := 32#32
  let v141 : BitVec 32 := Scalar.addi v140 c32_i32
  let c16_i32_119 : BitVec 32 := 16#32
  let v142 : BitVec 32 := Scalar.remsi v141 c16_i32_119
  let c256_i32_120 : BitVec 32 := 256#32
  let v143 : BitVec 32 := Scalar.muli v142 c256_i32_120
  let v144 : Index := Scalar.indexCast v143
  let c0_121 : Index := 0#32
  ![v144.toNat, 0]
def k0_off2_at (r : Fin 30) : BitVec 32 :=
  if r.val < 15 then
    if r.val < 7 then
      if r.val < 3 then
        if r.val < 1 then
          1#32
        else
          if r.val < 2 then
            4294967295#32
          else
            2#32
      else
        if r.val < 5 then
          if r.val < 4 then
            4294967294#32
          else
            3#32
        else
          if r.val < 6 then
            4294967293#32
          else
            4#32
    else
      if r.val < 11 then
        if r.val < 9 then
          if r.val < 8 then
            4294967292#32
          else
            5#32
        else
          if r.val < 10 then
            4294967291#32
          else
            6#32
      else
        if r.val < 13 then
          if r.val < 12 then
            4294967290#32
          else
            7#32
        else
          if r.val < 14 then
            4294967289#32
          else
            8#32
  else
    if r.val < 22 then
      if r.val < 18 then
        if r.val < 16 then
          4294967288#32
        else
          if r.val < 17 then
            9#32
          else
            4294967287#32
      else
        if r.val < 20 then
          if r.val < 19 then
            10#32
          else
            4294967286#32
        else
          if r.val < 21 then
            11#32
          else
            4294967285#32
    else
      if r.val < 26 then
        if r.val < 24 then
          if r.val < 23 then
            12#32
          else
            4294967284#32
        else
          if r.val < 25 then
            13#32
          else
            4294967283#32
      else
        if r.val < 28 then
          if r.val < 27 then
            14#32
          else
            4294967282#32
        else
          if r.val < 29 then
            15#32
          else
            4294967281#32
def k0_dev7 (d0 : Dev nD) : Nat :=
  let c0_i32_140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_139 : BitVec 32 := 1#32
  let v163 : BitVec 32 := Scalar.muli v7 c1_i32_139
  let v164 : BitVec 32 := Scalar.addi c0_i32_140 v163
  v164.toNat
def k0_dev8 (d0 : Dev nD) : Nat :=
  let c0_i32_185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_184 : BitVec 32 := 1#32
  let v207 : BitVec 32 := Scalar.muli v5 c1_i32_184
  let v208 : BitVec 32 := Scalar.addi c0_i32_185 v207
  v208.toNat
def k0_dev9 (d0 : Dev nD) : Nat :=
  let c0_i32_231 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_230 : BitVec 32 := 1#32
  let v251 : BitVec 32 := Scalar.muli v7 c1_i32_230
  let v252 : BitVec 32 := Scalar.addi c0_i32_231 v251
  v252.toNat
def k0_dev10 (d0 : Dev nD) : Nat :=
  let c0_i32_277 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_276 : BitVec 32 := 1#32
  let v295 : BitVec 32 := Scalar.muli v5 c1_i32_276
  let v296 : BitVec 32 := Scalar.addi c0_i32_277 v295
  v296.toNat
def k0_dev11 (d0 : Dev nD) : Nat :=
  let c0_i32_323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_322 : BitVec 32 := 1#32
  let v339 : BitVec 32 := Scalar.muli v7 c1_i32_322
  let v340 : BitVec 32 := Scalar.addi c0_i32_323 v339
  v340.toNat
def k0_dev12 (d0 : Dev nD) : Nat :=
  let c0_i32_368 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_367 : BitVec 32 := 1#32
  let v383 : BitVec 32 := Scalar.muli v5 c1_i32_367
  let v384 : BitVec 32 := Scalar.addi c0_i32_368 v383
  v384.toNat
def k0_dev13 (d0 : Dev nD) : Nat :=
  let c0_i32_414 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_413 : BitVec 32 := 1#32
  let v427 : BitVec 32 := Scalar.muli v7 c1_i32_413
  let v428 : BitVec 32 := Scalar.addi c0_i32_414 v427
  v428.toNat
def k0_dev14 (d0 : Dev nD) : Nat :=
  let c0_i32_460 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_459 : BitVec 32 := 1#32
  let v471 : BitVec 32 := Scalar.muli v5 c1_i32_459
  let v472 : BitVec 32 := Scalar.addi c0_i32_460 v471
  v472.toNat
def k0_dev15 (d0 : Dev nD) : Nat :=
  let c0_i32_505 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_504 : BitVec 32 := 1#32
  let v515 : BitVec 32 := Scalar.muli v7 c1_i32_504
  let v516 : BitVec 32 := Scalar.addi c0_i32_505 v515
  v516.toNat
def k0_dev16 (d0 : Dev nD) : Nat :=
  let c0_i32_550 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_549 : BitVec 32 := 1#32
  let v559 : BitVec 32 := Scalar.muli v5 c1_i32_549
  let v560 : BitVec 32 := Scalar.addi c0_i32_550 v559
  v560.toNat
def k0_dev17 (d0 : Dev nD) : Nat :=
  let c0_i32_596 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_595 : BitVec 32 := 1#32
  let v603 : BitVec 32 := Scalar.muli v7 c1_i32_595
  let v604 : BitVec 32 := Scalar.addi c0_i32_596 v603
  v604.toNat
def k0_dev18 (d0 : Dev nD) : Nat :=
  let c0_i32_642 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_641 : BitVec 32 := 1#32
  let v647 : BitVec 32 := Scalar.muli v5 c1_i32_641
  let v648 : BitVec 32 := Scalar.addi c0_i32_642 v647
  v648.toNat
def k0_dev19 (d0 : Dev nD) : Nat :=
  let c0_i32_686 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_685 : BitVec 32 := 1#32
  let v691 : BitVec 32 := Scalar.muli v7 c1_i32_685
  let v692 : BitVec 32 := Scalar.addi c0_i32_686 v691
  v692.toNat
def k0_dev20 (d0 : Dev nD) : Nat :=
  let c0_i32_731 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_730 : BitVec 32 := 1#32
  let v735 : BitVec 32 := Scalar.muli v5 c1_i32_730
  let v736 : BitVec 32 := Scalar.addi c0_i32_731 v735
  v736.toNat
def k0_dev21 (d0 : Dev nD) : Nat :=
  let c0_i32_777 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_776 : BitVec 32 := 1#32
  let v779 : BitVec 32 := Scalar.muli v7 c1_i32_776
  let v780 : BitVec 32 := Scalar.addi c0_i32_777 v779
  v780.toNat
def k0_dev22 (d0 : Dev nD) : Nat :=
  let c0_i32_823 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_822 : BitVec 32 := 1#32
  let v823 : BitVec 32 := Scalar.muli v5 c1_i32_822
  let v824 : BitVec 32 := Scalar.addi c0_i32_823 v823
  v824.toNat
def k0_dev23 (d0 : Dev nD) : Nat :=
  let c0_i32_867 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_866 : BitVec 32 := 1#32
  let v867 : BitVec 32 := Scalar.muli v7 c1_i32_866
  let v868 : BitVec 32 := Scalar.addi c0_i32_867 v867
  v868.toNat
def k0_dev24 (d0 : Dev nD) : Nat :=
  let c0_i32_912 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_911 : BitVec 32 := 1#32
  let v911 : BitVec 32 := Scalar.muli v5 c1_i32_911
  let v912 : BitVec 32 := Scalar.addi c0_i32_912 v911
  v912.toNat
def k0_dev25 (d0 : Dev nD) : Nat :=
  let c0_i32_958 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_957 : BitVec 32 := 1#32
  let v955 : BitVec 32 := Scalar.muli v7 c1_i32_957
  let v956 : BitVec 32 := Scalar.addi c0_i32_958 v955
  v956.toNat
def k0_dev26 (d0 : Dev nD) : Nat :=
  let c0_i32_1004 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1003 : BitVec 32 := 1#32
  let v999 : BitVec 32 := Scalar.muli v5 c1_i32_1003
  let v1000 : BitVec 32 := Scalar.addi c0_i32_1004 v999
  v1000.toNat
def k0_dev27 (d0 : Dev nD) : Nat :=
  let c0_i32_1048 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1047 : BitVec 32 := 1#32
  let v1043 : BitVec 32 := Scalar.muli v7 c1_i32_1047
  let v1044 : BitVec 32 := Scalar.addi c0_i32_1048 v1043
  v1044.toNat
def k0_dev28 (d0 : Dev nD) : Nat :=
  let c0_i32_1093 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1092 : BitVec 32 := 1#32
  let v1087 : BitVec 32 := Scalar.muli v5 c1_i32_1092
  let v1088 : BitVec 32 := Scalar.addi c0_i32_1093 v1087
  v1088.toNat
def k0_dev29 (d0 : Dev nD) : Nat :=
  let c0_i32_1139 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1138 : BitVec 32 := 1#32
  let v1131 : BitVec 32 := Scalar.muli v7 c1_i32_1138
  let v1132 : BitVec 32 := Scalar.addi c0_i32_1139 v1131
  v1132.toNat
def k0_dev30 (d0 : Dev nD) : Nat :=
  let c0_i32_1185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1184 : BitVec 32 := 1#32
  let v1175 : BitVec 32 := Scalar.muli v5 c1_i32_1184
  let v1176 : BitVec 32 := Scalar.addi c0_i32_1185 v1175
  v1176.toNat
def k0_dev31 (d0 : Dev nD) : Nat :=
  let c0_i32_1229 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1228 : BitVec 32 := 1#32
  let v1219 : BitVec 32 := Scalar.muli v7 c1_i32_1228
  let v1220 : BitVec 32 := Scalar.addi c0_i32_1229 v1219
  v1220.toNat
def k0_dev32 (d0 : Dev nD) : Nat :=
  let c0_i32_1274 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1273 : BitVec 32 := 1#32
  let v1263 : BitVec 32 := Scalar.muli v5 c1_i32_1273
  let v1264 : BitVec 32 := Scalar.addi c0_i32_1274 v1263
  v1264.toNat
def k0_dev33 (d0 : Dev nD) : Nat :=
  let c0_i32_1320 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1319 : BitVec 32 := 1#32
  let v1307 : BitVec 32 := Scalar.muli v7 c1_i32_1319
  let v1308 : BitVec 32 := Scalar.addi c0_i32_1320 v1307
  v1308.toNat
def k0_dev34 (d0 : Dev nD) : Nat :=
  let c0_i32_1366 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1365 : BitVec 32 := 1#32
  let v1351 : BitVec 32 := Scalar.muli v5 c1_i32_1365
  let v1352 : BitVec 32 := Scalar.addi c0_i32_1366 v1351
  v1352.toNat
def k0_dev35 (d0 : Dev nD) : Nat :=
  let c0_i32_1410 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1409 : BitVec 32 := 1#32
  let v1395 : BitVec 32 := Scalar.muli v7 c1_i32_1409
  let v1396 : BitVec 32 := Scalar.addi c0_i32_1410 v1395
  v1396.toNat
def k0_dev36 (d0 : Dev nD) : Nat :=
  let c0_i32_1455 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1454 : BitVec 32 := 1#32
  let v1439 : BitVec 32 := Scalar.muli v5 c1_i32_1454
  let v1440 : BitVec 32 := Scalar.addi c0_i32_1455 v1439
  v1440.toNat
def k0_dev37 (d0 : Dev nD) : Nat :=
  let c0_i32_1501 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1500 : BitVec 32 := 1#32
  let v1483 : BitVec 32 := Scalar.muli v7 c1_i32_1500
  let v1484 : BitVec 32 := Scalar.addi c0_i32_1501 v1483
  v1484.toNat
def k0_dev38 (d0 : Dev nD) : Nat :=
  let c0_i32_1547 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1546 : BitVec 32 := 1#32
  let v1527 : BitVec 32 := Scalar.muli v5 c1_i32_1546
  let v1528 : BitVec 32 := Scalar.addi c0_i32_1547 v1527
  v1528.toNat
def k0_dev39 (d0 : Dev nD) : Nat :=
  let c0_i32_1591 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1590 : BitVec 32 := 1#32
  let v1571 : BitVec 32 := Scalar.muli v7 c1_i32_1590
  let v1572 : BitVec 32 := Scalar.addi c0_i32_1591 v1571
  v1572.toNat
def k0_dev40 (d0 : Dev nD) : Nat :=
  let c0_i32_1636 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1635 : BitVec 32 := 1#32
  let v1615 : BitVec 32 := Scalar.muli v5 c1_i32_1635
  let v1616 : BitVec 32 := Scalar.addi c0_i32_1636 v1615
  v1616.toNat
def k0_dev41 (d0 : Dev nD) : Nat :=
  let c0_i32_1682 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1681 : BitVec 32 := 1#32
  let v1659 : BitVec 32 := Scalar.muli v7 c1_i32_1681
  let v1660 : BitVec 32 := Scalar.addi c0_i32_1682 v1659
  v1660.toNat
def k0_dev42 (d0 : Dev nD) : Nat :=
  let c0_i32_1728 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1727 : BitVec 32 := 1#32
  let v1703 : BitVec 32 := Scalar.muli v5 c1_i32_1727
  let v1704 : BitVec 32 := Scalar.addi c0_i32_1728 v1703
  v1704.toNat
def k0_dev43 (d0 : Dev nD) : Nat :=
  let c0_i32_1772 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1771 : BitVec 32 := 1#32
  let v1747 : BitVec 32 := Scalar.muli v7 c1_i32_1771
  let v1748 : BitVec 32 := Scalar.addi c0_i32_1772 v1747
  v1748.toNat
def k0_dev44 (d0 : Dev nD) : Nat :=
  let c0_i32_1817 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1816 : BitVec 32 := 1#32
  let v1791 : BitVec 32 := Scalar.muli v5 c1_i32_1816
  let v1792 : BitVec 32 := Scalar.addi c0_i32_1817 v1791
  v1792.toNat
def k0_dev45 (d0 : Dev nD) : Nat :=
  let c0_i32_1863 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1862 : BitVec 32 := 1#32
  let v1835 : BitVec 32 := Scalar.muli v7 c1_i32_1862
  let v1836 : BitVec 32 := Scalar.addi c0_i32_1863 v1835
  v1836.toNat
def k0_dev46 (d0 : Dev nD) : Nat :=
  let c0_i32_1909 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1908 : BitVec 32 := 1#32
  let v1879 : BitVec 32 := Scalar.muli v5 c1_i32_1908
  let v1880 : BitVec 32 := Scalar.addi c0_i32_1909 v1879
  v1880.toNat
def k0_dev47 (d0 : Dev nD) : Nat :=
  let c0_i32_1953 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1952 : BitVec 32 := 1#32
  let v1923 : BitVec 32 := Scalar.muli v7 c1_i32_1952
  let v1924 : BitVec 32 := Scalar.addi c0_i32_1953 v1923
  v1924.toNat
def k0_dev48 (d0 : Dev nD) : Nat :=
  let c0_i32_1998 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1997 : BitVec 32 := 1#32
  let v1967 : BitVec 32 := Scalar.muli v5 c1_i32_1997
  let v1968 : BitVec 32 := Scalar.addi c0_i32_1998 v1967
  v1968.toNat
def k0_dev49 (d0 : Dev nD) : Nat :=
  let c0_i32_2044 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2043 : BitVec 32 := 1#32
  let v2011 : BitVec 32 := Scalar.muli v7 c1_i32_2043
  let v2012 : BitVec 32 := Scalar.addi c0_i32_2044 v2011
  v2012.toNat
def k0_dev50 (d0 : Dev nD) : Nat :=
  let c0_i32_2090 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2089 : BitVec 32 := 1#32
  let v2055 : BitVec 32 := Scalar.muli v5 c1_i32_2089
  let v2056 : BitVec 32 := Scalar.addi c0_i32_2090 v2055
  v2056.toNat
def k0_dev51 (d0 : Dev nD) : Nat :=
  let c0_i32_2134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2133 : BitVec 32 := 1#32
  let v2099 : BitVec 32 := Scalar.muli v7 c1_i32_2133
  let v2100 : BitVec 32 := Scalar.addi c0_i32_2134 v2099
  v2100.toNat
def k0_dev52 (d0 : Dev nD) : Nat :=
  let c0_i32_2179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2178 : BitVec 32 := 1#32
  let v2143 : BitVec 32 := Scalar.muli v5 c1_i32_2178
  let v2144 : BitVec 32 := Scalar.addi c0_i32_2179 v2143
  v2144.toNat
def k0_dev53 (d0 : Dev nD) : Nat :=
  let c0_i32_2225 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2224 : BitVec 32 := 1#32
  let v2187 : BitVec 32 := Scalar.muli v7 c1_i32_2224
  let v2188 : BitVec 32 := Scalar.addi c0_i32_2225 v2187
  v2188.toNat
def k0_dev54 (d0 : Dev nD) : Nat :=
  let c0_i32_2271 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2270 : BitVec 32 := 1#32
  let v2231 : BitVec 32 := Scalar.muli v5 c1_i32_2270
  let v2232 : BitVec 32 := Scalar.addi c0_i32_2271 v2231
  v2232.toNat
def k0_dev55 (d0 : Dev nD) : Nat :=
  let c0_i32_2315 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2314 : BitVec 32 := 1#32
  let v2275 : BitVec 32 := Scalar.muli v7 c1_i32_2314
  let v2276 : BitVec 32 := Scalar.addi c0_i32_2315 v2275
  v2276.toNat
def k0_dev56 (d0 : Dev nD) : Nat :=
  let c0_i32_2360 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2359 : BitVec 32 := 1#32
  let v2319 : BitVec 32 := Scalar.muli v5 c1_i32_2359
  let v2320 : BitVec 32 := Scalar.addi c0_i32_2360 v2319
  v2320.toNat
def k0_dev57 (d0 : Dev nD) : Nat :=
  let c0_i32_2406 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2405 : BitVec 32 := 1#32
  let v2363 : BitVec 32 := Scalar.muli v7 c1_i32_2405
  let v2364 : BitVec 32 := Scalar.addi c0_i32_2406 v2363
  v2364.toNat
def k0_dev58 (d0 : Dev nD) : Nat :=
  let c0_i32_2452 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2451 : BitVec 32 := 1#32
  let v2407 : BitVec 32 := Scalar.muli v5 c1_i32_2451
  let v2408 : BitVec 32 := Scalar.addi c0_i32_2452 v2407
  v2408.toNat
def k0_dev59 (d0 : Dev nD) : Nat :=
  let c0_i32_2496 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2495 : BitVec 32 := 1#32
  let v2451 : BitVec 32 := Scalar.muli v7 c1_i32_2495
  let v2452 : BitVec 32 := Scalar.addi c0_i32_2496 v2451
  v2452.toNat
def k0_dev60 (d0 : Dev nD) : Nat :=
  let c0_i32_2541 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2540 : BitVec 32 := 1#32
  let v2495 : BitVec 32 := Scalar.muli v5 c1_i32_2540
  let v2496 : BitVec 32 := Scalar.addi c0_i32_2541 v2495
  v2496.toNat
def k0_dev61 (d0 : Dev nD) : Nat :=
  let c0_i32_2587 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2586 : BitVec 32 := 1#32
  let v2539 : BitVec 32 := Scalar.muli v7 c1_i32_2586
  let v2540 : BitVec 32 := Scalar.addi c0_i32_2587 v2539
  v2540.toNat
def k0_dev62 (d0 : Dev nD) : Nat :=
  let c0_i32_2633 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2632 : BitVec 32 := 1#32
  let v2583 : BitVec 32 := Scalar.muli v5 c1_i32_2632
  let v2584 : BitVec 32 := Scalar.addi c0_i32_2633 v2583
  v2584.toNat
def k0_dev63 (d0 : Dev nD) : Nat :=
  let c0_i32_2773 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2772 : BitVec 32 := 1#32
  let v2729 : BitVec 32 := Scalar.muli v7 c1_i32_2772
  let v2730 : BitVec 32 := Scalar.addi c0_i32_2773 v2729
  v2730.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2778 : BitVec 32 := 1#32
  let v2739 : BitVec 32 := Scalar.addi v2 c1_i32_2778
  let c32_i32_2779 : BitVec 32 := 32#32
  let v2740 : BitVec 32 := Scalar.addi v2739 c32_i32_2779
  let c16_i32_2780 : BitVec 32 := 16#32
  let v2741 : BitVec 32 := Scalar.remsi v2740 c16_i32_2780
  let c256_i32_2789 : BitVec 32 := 256#32
  let v2748 : BitVec 32 := Scalar.muli v2741 c256_i32_2789
  let c0_i32_2794 : BitVec 32 := 0#32
  ![v2748.toNat, 0]
def k0_dev64 (d0 : Dev nD) : Nat :=
  let c0_i32_2806 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2805 : BitVec 32 := 1#32
  let v2754 : BitVec 32 := Scalar.muli v7 c1_i32_2805
  let v2755 : BitVec 32 := Scalar.addi c0_i32_2806 v2754
  v2755.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2811 : BitVec 32 := 1#32
  let v2764 : BitVec 32 := Scalar.addi v2 c1_i32_2811
  let c32_i32_2812 : BitVec 32 := 32#32
  let v2765 : BitVec 32 := Scalar.addi v2764 c32_i32_2812
  let c16_i32_2813 : BitVec 32 := 16#32
  let v2766 : BitVec 32 := Scalar.remsi v2765 c16_i32_2813
  let c256_i32_2822 : BitVec 32 := 256#32
  let v2773 : BitVec 32 := Scalar.muli v2766 c256_i32_2822
  let c512_i32 : BitVec 32 := 512#32
  ![v2773.toNat, 512]
def k0_dev65 (d0 : Dev nD) : Nat :=
  let c0_i32_2838 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2837 : BitVec 32 := 1#32
  let v2779 : BitVec 32 := Scalar.muli v5 c1_i32_2837
  let v2780 : BitVec 32 := Scalar.addi c0_i32_2838 v2779
  v2780.toNat
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_2843 : BitVec 32 := 4294967295#32
  let v2789 : BitVec 32 := Scalar.addi v2 c_m1_i32_2843
  let c32_i32_2844 : BitVec 32 := 32#32
  let v2790 : BitVec 32 := Scalar.addi v2789 c32_i32_2844
  let c16_i32_2845 : BitVec 32 := 16#32
  let v2791 : BitVec 32 := Scalar.remsi v2790 c16_i32_2845
  let c256_i32_2854 : BitVec 32 := 256#32
  let v2798 : BitVec 32 := Scalar.muli v2791 c256_i32_2854
  let c1024_i32 : BitVec 32 := 1024#32
  ![v2798.toNat, 1024]
def k0_dev66 (d0 : Dev nD) : Nat :=
  let c0_i32_2870 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2869 : BitVec 32 := 1#32
  let v2804 : BitVec 32 := Scalar.muli v5 c1_i32_2869
  let v2805 : BitVec 32 := Scalar.addi c0_i32_2870 v2804
  v2805.toNat
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_2875 : BitVec 32 := 4294967295#32
  let v2814 : BitVec 32 := Scalar.addi v2 c_m1_i32_2875
  let c32_i32_2876 : BitVec 32 := 32#32
  let v2815 : BitVec 32 := Scalar.addi v2814 c32_i32_2876
  let c16_i32_2877 : BitVec 32 := 16#32
  let v2816 : BitVec 32 := Scalar.remsi v2815 c16_i32_2877
  let c256_i32_2886 : BitVec 32 := 256#32
  let v2823 : BitVec 32 := Scalar.muli v2816 c256_i32_2886
  let c1536_i32 : BitVec 32 := 1536#32
  ![v2823.toNat, 1536]
def k0_dev67 (d0 : Dev nD) : Nat :=
  let c0_i32_2916 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2915 : BitVec 32 := 1#32
  let v2837 : BitVec 32 := Scalar.muli v7 c1_i32_2915
  let v2838 : BitVec 32 := Scalar.addi c0_i32_2916 v2837
  v2838.toNat
def k0_off7 (d0 : Dev nD) (c0_i32_2921 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2847 : BitVec 32 := Scalar.subi v2 c0_i32_2921
  let c32_i32_2922 : BitVec 32 := 32#32
  let v2848 : BitVec 32 := Scalar.addi v2847 c32_i32_2922
  let c16_i32_2923 : BitVec 32 := 16#32
  let v2849 : BitVec 32 := Scalar.remsi v2848 c16_i32_2923
  let c256_i32_2932 : BitVec 32 := 256#32
  let v2856 : BitVec 32 := Scalar.muli v2849 c256_i32_2932
  let c0_i32_2937 : BitVec 32 := 0#32
  ![v2856.toNat, 0]
def k0_dev68 (d0 : Dev nD) : Nat :=
  let c0_i32_2963 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2962 : BitVec 32 := 1#32
  let v2870 : BitVec 32 := Scalar.muli v5 c1_i32_2962
  let v2871 : BitVec 32 := Scalar.addi c0_i32_2963 v2870
  v2871.toNat
def k0_off8 (d0 : Dev nD) (c0_i32_2968 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2880 : BitVec 32 := Scalar.subi v2 c0_i32_2968
  let c32_i32_2969 : BitVec 32 := 32#32
  let v2881 : BitVec 32 := Scalar.addi v2880 c32_i32_2969
  let c16_i32_2970 : BitVec 32 := 16#32
  let v2882 : BitVec 32 := Scalar.remsi v2881 c16_i32_2970
  let c256_i32_2979 : BitVec 32 := 256#32
  let v2889 : BitVec 32 := Scalar.muli v2882 c256_i32_2979
  let c1024_i32_2984 : BitVec 32 := 1024#32
  ![v2889.toNat, 1024]
def k0_off8_at (r : Fin 15) : BitVec 32 :=
  if r.val < 7 then
    if r.val < 3 then
      if r.val < 1 then
        0#32
      else
        if r.val < 2 then
          4294967295#32
        else
          4294967294#32
    else
      if r.val < 5 then
        if r.val < 4 then
          4294967293#32
        else
          4294967292#32
      else
        if r.val < 6 then
          4294967291#32
        else
          4294967290#32
  else
    if r.val < 11 then
      if r.val < 9 then
        if r.val < 8 then
          4294967289#32
        else
          4294967288#32
      else
        if r.val < 10 then
          4294967287#32
        else
          4294967286#32
    else
      if r.val < 13 then
        if r.val < 12 then
          4294967285#32
        else
          4294967284#32
      else
        if r.val < 14 then
          4294967283#32
        else
          4294967282#32
def k0_dev69 (d0 : Dev nD) : Nat :=
  let c0_i32_3010 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3009 : BitVec 32 := 1#32
  let v2903 : BitVec 32 := Scalar.muli v7 c1_i32_3009
  let v2904 : BitVec 32 := Scalar.addi c0_i32_3010 v2903
  v2904.toNat
def k0_off9 (d0 : Dev nD) (c0_i32_3015 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2913 : BitVec 32 := Scalar.subi v2 c0_i32_3015
  let c32_i32_3016 : BitVec 32 := 32#32
  let v2914 : BitVec 32 := Scalar.addi v2913 c32_i32_3016
  let c16_i32_3017 : BitVec 32 := 16#32
  let v2915 : BitVec 32 := Scalar.remsi v2914 c16_i32_3017
  let c256_i32_3026 : BitVec 32 := 256#32
  let v2922 : BitVec 32 := Scalar.muli v2915 c256_i32_3026
  let c512_i32_3031 : BitVec 32 := 512#32
  ![v2922.toNat, 512]
def k0_dev70 (d0 : Dev nD) : Nat :=
  let c0_i32_3057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3056 : BitVec 32 := 1#32
  let v2936 : BitVec 32 := Scalar.muli v5 c1_i32_3056
  let v2937 : BitVec 32 := Scalar.addi c0_i32_3057 v2936
  v2937.toNat
def k0_off10 (d0 : Dev nD) (c0_i32_3062 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2946 : BitVec 32 := Scalar.subi v2 c0_i32_3062
  let c32_i32_3063 : BitVec 32 := 32#32
  let v2947 : BitVec 32 := Scalar.addi v2946 c32_i32_3063
  let c16_i32_3064 : BitVec 32 := 16#32
  let v2948 : BitVec 32 := Scalar.remsi v2947 c16_i32_3064
  let c256_i32_3073 : BitVec 32 := 256#32
  let v2955 : BitVec 32 := Scalar.muli v2948 c256_i32_3073
  let c1536_i32_3078 : BitVec 32 := 1536#32
  ![v2955.toNat, 1536]
def k0_off10_at (r : Fin 15) : BitVec 32 :=
  if r.val < 7 then
    if r.val < 3 then
      if r.val < 1 then
        0#32
      else
        if r.val < 2 then
          4294967295#32
        else
          4294967294#32
    else
      if r.val < 5 then
        if r.val < 4 then
          4294967293#32
        else
          4294967292#32
      else
        if r.val < 6 then
          4294967291#32
        else
          4294967290#32
  else
    if r.val < 11 then
      if r.val < 9 then
        if r.val < 8 then
          4294967289#32
        else
          4294967288#32
      else
        if r.val < 10 then
          4294967287#32
        else
          4294967286#32
    else
      if r.val < 13 then
        if r.val < 12 then
          4294967285#32
        else
          4294967284#32
      else
        if r.val < 14 then
          4294967283#32
        else
          4294967282#32
def k0_dev71 (d0 : Dev nD) : Nat :=
  let c0_i32_3104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3103 : BitVec 32 := 1#32
  let v2969 : BitVec 32 := Scalar.muli v7 c1_i32_3103
  let v2970 : BitVec 32 := Scalar.addi c0_i32_3104 v2969
  v2970.toNat
def k0_dev72 (d0 : Dev nD) : Nat :=
  let c0_i32_3158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3157 : BitVec 32 := 1#32
  let v3007 : BitVec 32 := Scalar.muli v5 c1_i32_3157
  let v3008 : BitVec 32 := Scalar.addi c0_i32_3158 v3007
  v3008.toNat
def k0_dev73 (d0 : Dev nD) : Nat :=
  let c0_i32_3212 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3211 : BitVec 32 := 1#32
  let v3045 : BitVec 32 := Scalar.muli v7 c1_i32_3211
  let v3046 : BitVec 32 := Scalar.addi c0_i32_3212 v3045
  v3046.toNat
def k0_dev74 (d0 : Dev nD) : Nat :=
  let c0_i32_3266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3265 : BitVec 32 := 1#32
  let v3083 : BitVec 32 := Scalar.muli v5 c1_i32_3265
  let v3084 : BitVec 32 := Scalar.addi c0_i32_3266 v3083
  v3084.toNat
def k0_dev75 (d0 : Dev nD) : Nat :=
  let c0_i32_3320 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3319 : BitVec 32 := 1#32
  let v3121 : BitVec 32 := Scalar.muli v7 c1_i32_3319
  let v3122 : BitVec 32 := Scalar.addi c0_i32_3320 v3121
  v3122.toNat
def k0_dev76 (d0 : Dev nD) : Nat :=
  let c0_i32_3374 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3373 : BitVec 32 := 1#32
  let v3159 : BitVec 32 := Scalar.muli v5 c1_i32_3373
  let v3160 : BitVec 32 := Scalar.addi c0_i32_3374 v3159
  v3160.toNat
def k0_dev77 (d0 : Dev nD) : Nat :=
  let c0_i32_3428 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3427 : BitVec 32 := 1#32
  let v3197 : BitVec 32 := Scalar.muli v7 c1_i32_3427
  let v3198 : BitVec 32 := Scalar.addi c0_i32_3428 v3197
  v3198.toNat
def k0_dev78 (d0 : Dev nD) : Nat :=
  let c0_i32_3482 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3481 : BitVec 32 := 1#32
  let v3235 : BitVec 32 := Scalar.muli v5 c1_i32_3481
  let v3236 : BitVec 32 := Scalar.addi c0_i32_3482 v3235
  v3236.toNat
def k0_dev79 (d0 : Dev nD) : Nat :=
  let c0_i32_3536 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3535 : BitVec 32 := 1#32
  let v3273 : BitVec 32 := Scalar.muli v7 c1_i32_3535
  let v3274 : BitVec 32 := Scalar.addi c0_i32_3536 v3273
  v3274.toNat
def k0_dev80 (d0 : Dev nD) : Nat :=
  let c0_i32_3590 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3589 : BitVec 32 := 1#32
  let v3311 : BitVec 32 := Scalar.muli v5 c1_i32_3589
  let v3312 : BitVec 32 := Scalar.addi c0_i32_3590 v3311
  v3312.toNat
def k0_dev81 (d0 : Dev nD) : Nat :=
  let c0_i32_3644 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3643 : BitVec 32 := 1#32
  let v3349 : BitVec 32 := Scalar.muli v7 c1_i32_3643
  let v3350 : BitVec 32 := Scalar.addi c0_i32_3644 v3349
  v3350.toNat
def k0_dev82 (d0 : Dev nD) : Nat :=
  let c0_i32_3698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3697 : BitVec 32 := 1#32
  let v3387 : BitVec 32 := Scalar.muli v5 c1_i32_3697
  let v3388 : BitVec 32 := Scalar.addi c0_i32_3698 v3387
  v3388.toNat
def k0_dev83 (d0 : Dev nD) : Nat :=
  let c0_i32_3752 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3751 : BitVec 32 := 1#32
  let v3425 : BitVec 32 := Scalar.muli v7 c1_i32_3751
  let v3426 : BitVec 32 := Scalar.addi c0_i32_3752 v3425
  v3426.toNat
def k0_dev84 (d0 : Dev nD) : Nat :=
  let c0_i32_3806 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3805 : BitVec 32 := 1#32
  let v3463 : BitVec 32 := Scalar.muli v5 c1_i32_3805
  let v3464 : BitVec 32 := Scalar.addi c0_i32_3806 v3463
  v3464.toNat
def k0_dev85 (d0 : Dev nD) : Nat :=
  let c0_i32_3860 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3859 : BitVec 32 := 1#32
  let v3501 : BitVec 32 := Scalar.muli v7 c1_i32_3859
  let v3502 : BitVec 32 := Scalar.addi c0_i32_3860 v3501
  v3502.toNat
def k0_dev86 (d0 : Dev nD) : Nat :=
  let c0_i32_3914 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3913 : BitVec 32 := 1#32
  let v3539 : BitVec 32 := Scalar.muli v5 c1_i32_3913
  let v3540 : BitVec 32 := Scalar.addi c0_i32_3914 v3539
  v3540.toNat
def k0_dev87 (d0 : Dev nD) : Nat :=
  let c0_i32_3968 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3967 : BitVec 32 := 1#32
  let v3577 : BitVec 32 := Scalar.muli v7 c1_i32_3967
  let v3578 : BitVec 32 := Scalar.addi c0_i32_3968 v3577
  v3578.toNat
def k0_dev88 (d0 : Dev nD) : Nat :=
  let c0_i32_4022 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4021 : BitVec 32 := 1#32
  let v3615 : BitVec 32 := Scalar.muli v5 c1_i32_4021
  let v3616 : BitVec 32 := Scalar.addi c0_i32_4022 v3615
  v3616.toNat
def k0_dev89 (d0 : Dev nD) : Nat :=
  let c0_i32_4076 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4075 : BitVec 32 := 1#32
  let v3653 : BitVec 32 := Scalar.muli v7 c1_i32_4075
  let v3654 : BitVec 32 := Scalar.addi c0_i32_4076 v3653
  v3654.toNat
def k0_dev90 (d0 : Dev nD) : Nat :=
  let c0_i32_4130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4129 : BitVec 32 := 1#32
  let v3691 : BitVec 32 := Scalar.muli v5 c1_i32_4129
  let v3692 : BitVec 32 := Scalar.addi c0_i32_4130 v3691
  v3692.toNat
def k0_dev91 (d0 : Dev nD) : Nat :=
  let c0_i32_4184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4183 : BitVec 32 := 1#32
  let v3729 : BitVec 32 := Scalar.muli v7 c1_i32_4183
  let v3730 : BitVec 32 := Scalar.addi c0_i32_4184 v3729
  v3730.toNat
def k0_dev92 (d0 : Dev nD) : Nat :=
  let c0_i32_4238 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4237 : BitVec 32 := 1#32
  let v3767 : BitVec 32 := Scalar.muli v5 c1_i32_4237
  let v3768 : BitVec 32 := Scalar.addi c0_i32_4238 v3767
  v3768.toNat
def k0_dev93 (d0 : Dev nD) : Nat :=
  let c0_i32_4292 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4291 : BitVec 32 := 1#32
  let v3805 : BitVec 32 := Scalar.muli v7 c1_i32_4291
  let v3806 : BitVec 32 := Scalar.addi c0_i32_4292 v3805
  v3806.toNat
def k0_dev94 (d0 : Dev nD) : Nat :=
  let c0_i32_4346 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4345 : BitVec 32 := 1#32
  let v3843 : BitVec 32 := Scalar.muli v5 c1_i32_4345
  let v3844 : BitVec 32 := Scalar.addi c0_i32_4346 v3843
  v3844.toNat
def k0_dev95 (d0 : Dev nD) : Nat :=
  let c0_i32_4400 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4399 : BitVec 32 := 1#32
  let v3881 : BitVec 32 := Scalar.muli v7 c1_i32_4399
  let v3882 : BitVec 32 := Scalar.addi c0_i32_4400 v3881
  v3882.toNat
def k0_dev96 (d0 : Dev nD) : Nat :=
  let c0_i32_4454 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4453 : BitVec 32 := 1#32
  let v3919 : BitVec 32 := Scalar.muli v5 c1_i32_4453
  let v3920 : BitVec 32 := Scalar.addi c0_i32_4454 v3919
  v3920.toNat
def k0_dev97 (d0 : Dev nD) : Nat :=
  let c0_i32_4508 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4507 : BitVec 32 := 1#32
  let v3957 : BitVec 32 := Scalar.muli v7 c1_i32_4507
  let v3958 : BitVec 32 := Scalar.addi c0_i32_4508 v3957
  v3958.toNat
def k0_dev98 (d0 : Dev nD) : Nat :=
  let c0_i32_4562 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4561 : BitVec 32 := 1#32
  let v3995 : BitVec 32 := Scalar.muli v5 c1_i32_4561
  let v3996 : BitVec 32 := Scalar.addi c0_i32_4562 v3995
  v3996.toNat
def k0_dev99 (d0 : Dev nD) : Nat :=
  let c0_i32_4616 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4615 : BitVec 32 := 1#32
  let v4033 : BitVec 32 := Scalar.muli v7 c1_i32_4615
  let v4034 : BitVec 32 := Scalar.addi c0_i32_4616 v4033
  v4034.toNat
def k0_dev100 (d0 : Dev nD) : Nat :=
  let c0_i32_4670 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4669 : BitVec 32 := 1#32
  let v4071 : BitVec 32 := Scalar.muli v5 c1_i32_4669
  let v4072 : BitVec 32 := Scalar.addi c0_i32_4670 v4071
  v4072.toNat
def k0_dev101 (d0 : Dev nD) : Nat :=
  let c0_i32_4724 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4723 : BitVec 32 := 1#32
  let v4109 : BitVec 32 := Scalar.muli v7 c1_i32_4723
  let v4110 : BitVec 32 := Scalar.addi c0_i32_4724 v4109
  v4110.toNat
def k0_dev102 (d0 : Dev nD) : Nat :=
  let c0_i32_4778 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4777 : BitVec 32 := 1#32
  let v4147 : BitVec 32 := Scalar.muli v5 c1_i32_4777
  let v4148 : BitVec 32 := Scalar.addi c0_i32_4778 v4147
  v4148.toNat
def k0_dev103 (d0 : Dev nD) : Nat :=
  let c0_i32_4832 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4831 : BitVec 32 := 1#32
  let v4185 : BitVec 32 := Scalar.muli v7 c1_i32_4831
  let v4186 : BitVec 32 := Scalar.addi c0_i32_4832 v4185
  v4186.toNat
def k0_dev104 (d0 : Dev nD) : Nat :=
  let c0_i32_4886 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4885 : BitVec 32 := 1#32
  let v4223 : BitVec 32 := Scalar.muli v5 c1_i32_4885
  let v4224 : BitVec 32 := Scalar.addi c0_i32_4886 v4223
  v4224.toNat
def k0_dev105 (d0 : Dev nD) : Nat :=
  let c0_i32_4940 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4939 : BitVec 32 := 1#32
  let v4261 : BitVec 32 := Scalar.muli v7 c1_i32_4939
  let v4262 : BitVec 32 := Scalar.addi c0_i32_4940 v4261
  v4262.toNat
def k0_dev106 (d0 : Dev nD) : Nat :=
  let c0_i32_4994 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4993 : BitVec 32 := 1#32
  let v4299 : BitVec 32 := Scalar.muli v5 c1_i32_4993
  let v4300 : BitVec 32 := Scalar.addi c0_i32_4994 v4299
  v4300.toNat
def k0_dev107 (d0 : Dev nD) : Nat :=
  let c0_i32_5048 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5047 : BitVec 32 := 1#32
  let v4337 : BitVec 32 := Scalar.muli v7 c1_i32_5047
  let v4338 : BitVec 32 := Scalar.addi c0_i32_5048 v4337
  v4338.toNat
def k0_dev108 (d0 : Dev nD) : Nat :=
  let c0_i32_5102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5101 : BitVec 32 := 1#32
  let v4375 : BitVec 32 := Scalar.muli v5 c1_i32_5101
  let v4376 : BitVec 32 := Scalar.addi c0_i32_5102 v4375
  v4376.toNat
def k0_dev109 (d0 : Dev nD) : Nat :=
  let c0_i32_5156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5155 : BitVec 32 := 1#32
  let v4413 : BitVec 32 := Scalar.muli v7 c1_i32_5155
  let v4414 : BitVec 32 := Scalar.addi c0_i32_5156 v4413
  v4414.toNat
def k0_dev110 (d0 : Dev nD) : Nat :=
  let c0_i32_5210 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5209 : BitVec 32 := 1#32
  let v4451 : BitVec 32 := Scalar.muli v5 c1_i32_5209
  let v4452 : BitVec 32 := Scalar.addi c0_i32_5210 v4451
  v4452.toNat
def k0_dev111 (d0 : Dev nD) : Nat :=
  let c0_i32_5264 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5263 : BitVec 32 := 1#32
  let v4489 : BitVec 32 := Scalar.muli v7 c1_i32_5263
  let v4490 : BitVec 32 := Scalar.addi c0_i32_5264 v4489
  v4490.toNat
def k0_dev112 (d0 : Dev nD) : Nat :=
  let c0_i32_5318 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5317 : BitVec 32 := 1#32
  let v4527 : BitVec 32 := Scalar.muli v5 c1_i32_5317
  let v4528 : BitVec 32 := Scalar.addi c0_i32_5318 v4527
  v4528.toNat
def k0_dev113 (d0 : Dev nD) : Nat :=
  let c0_i32_5372 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5371 : BitVec 32 := 1#32
  let v4565 : BitVec 32 := Scalar.muli v7 c1_i32_5371
  let v4566 : BitVec 32 := Scalar.addi c0_i32_5372 v4565
  v4566.toNat
def k0_dev114 (d0 : Dev nD) : Nat :=
  let c0_i32_5426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5425 : BitVec 32 := 1#32
  let v4603 : BitVec 32 := Scalar.muli v5 c1_i32_5425
  let v4604 : BitVec 32 := Scalar.addi c0_i32_5426 v4603
  v4604.toNat
def k0_dev115 (d0 : Dev nD) : Nat :=
  let c0_i32_5480 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5479 : BitVec 32 := 1#32
  let v4641 : BitVec 32 := Scalar.muli v7 c1_i32_5479
  let v4642 : BitVec 32 := Scalar.addi c0_i32_5480 v4641
  v4642.toNat
def k0_dev116 (d0 : Dev nD) : Nat :=
  let c0_i32_5534 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5533 : BitVec 32 := 1#32
  let v4679 : BitVec 32 := Scalar.muli v5 c1_i32_5533
  let v4680 : BitVec 32 := Scalar.addi c0_i32_5534 v4679
  v4680.toNat
def k0_dev117 (d0 : Dev nD) : Nat :=
  let c0_i32_5588 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5587 : BitVec 32 := 1#32
  let v4717 : BitVec 32 := Scalar.muli v7 c1_i32_5587
  let v4718 : BitVec 32 := Scalar.addi c0_i32_5588 v4717
  v4718.toNat
def k0_dev118 (d0 : Dev nD) : Nat :=
  let c0_i32_5642 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5641 : BitVec 32 := 1#32
  let v4755 : BitVec 32 := Scalar.muli v5 c1_i32_5641
  let v4756 : BitVec 32 := Scalar.addi c0_i32_5642 v4755
  v4756.toNat
def k0_dev119 (d0 : Dev nD) : Nat :=
  let c0_i32_5696 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5695 : BitVec 32 := 1#32
  let v4793 : BitVec 32 := Scalar.muli v7 c1_i32_5695
  let v4794 : BitVec 32 := Scalar.addi c0_i32_5696 v4793
  v4794.toNat
def k0_dev120 (d0 : Dev nD) : Nat :=
  let c0_i32_5750 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5749 : BitVec 32 := 1#32
  let v4831 : BitVec 32 := Scalar.muli v5 c1_i32_5749
  let v4832 : BitVec 32 := Scalar.addi c0_i32_5750 v4831
  v4832.toNat
def k0_dev121 (d0 : Dev nD) : Nat :=
  let c0_i32_5804 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5803 : BitVec 32 := 1#32
  let v4869 : BitVec 32 := Scalar.muli v7 c1_i32_5803
  let v4870 : BitVec 32 := Scalar.addi c0_i32_5804 v4869
  v4870.toNat
def k0_dev122 (d0 : Dev nD) : Nat :=
  let c0_i32_5858 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5857 : BitVec 32 := 1#32
  let v4907 : BitVec 32 := Scalar.muli v5 c1_i32_5857
  let v4908 : BitVec 32 := Scalar.addi c0_i32_5858 v4907
  v4908.toNat
def k0_dev123 (d0 : Dev nD) : Nat :=
  let c0_i32_7667_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_7666_r0 : BitVec 32 := 1#32
  let v5810_r0 : BitVec 32 := Scalar.muli v5 c1_i32_7666_r0
  let v5811_r0 : BitVec 32 := Scalar.addi c0_i32_7667_r0 v5810_r0
  v5811_r0.toNat
def k0_dev124 (d0 : Dev nD) : Nat :=
  let c0_i32_7670_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7669_r0 : BitVec 32 := 1#32
  let v5812_r0 : BitVec 32 := Scalar.muli v7 c1_i32_7669_r0
  let v5813_r0 : BitVec 32 := Scalar.addi c0_i32_7670_r0 v5812_r0
  v5813_r0.toNat
abbrev stage0_0 : Fin 1 → Memref sig .tc .vmem S4096x256 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x2048, .i32⟩
  | .hbm, ⟨7, _⟩ => ⟨S4096x2048, .f32⟩
  | .hbm, ⟨8, _⟩ => ⟨S4096x2048, .f32⟩
  | .hbm, ⟨9, _⟩ => ⟨S1, .f32⟩
  | .hbm, ⟨10, _⟩ => ⟨S1x1, .f32⟩
  | .hbm, ⟨11, _⟩ => ⟨S4096x2048, .f32⟩
  | .hbm, ⟨12, _⟩ => ⟨S4096x2048, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.Fold.lean ====
/-
# The kernel's body as a list of steps

The printed body is one long straight line of operations. This module gives the same operations as a short list of
parametric steps (the source's loops), and proves the two equal.
-/
module

public import proofs.«01_k».proof.Proof.Gen.KernelIdeal

@[expose] public section

noncomputable section

namespace Cert.KernelIdeal.Ring

open Cert.KernelIdeal Cert.KernelIdeal.Gen
open Idealize.ShloMosaic
open Idealize.ShloMosaic.TcCoe
open Idealize.SL.Sem

variable {F : FTy → Type} [FloatOps F]

/-! ## The operands -/

abbrev xM : Memref sig .tc .vmem S4096x256 .i8 := Memref.whole cc0_stg0_0
abbrev wM : Memref sig .tc .vmem S256x2048 .i8 := Memref.whole cc0_stg1_0
abbrev axM : Memref sig .tc .smem S1 .f32 := Memref.whole cc0_stg2_0
abbrev awM : Memref sig .tc .smem S1 .f32 := Memref.whole cc0_stg3_0
abbrev oM : Memref sig .tc .hbm S4096x2048 .f32 := Memref.whole main_v1
abbrev cM : Memref sig .tc .vmem S4x16x256x512 .bf16 := Memref.whole cc0_scratch0
abbrev gM : Memref sig .tc .vmem S4x2x256x512 .f32 := Memref.whole cc0_scratch1

/-! ## Rectangles, views and semaphores of flow `f` -/

theorem inbC (f : Fin 4) (s : Fin 16) : ∀ a, (![f.val, s.val, 0, 0] : Fin 4 → ℕ) a + S1x1x256x512.size a ≤ S4x16x256x512.size a := by
  revert f s; decide +kernel
theorem inbG (f : Fin 4) (b : Fin 2) : ∀ a, (![f.val, b.val, 0, 0] : Fin 4 → ℕ) a + S1x1x256x512.size a ≤ S4x2x256x512.size a := by
  revert f b; decide +kernel
theorem inbW (f : Fin 4) : ∀ a, (![0, 512 * f.val] : Fin 2 → ℕ) a + S256x512.size a ≤ S256x2048.size a := by
  revert f; decide +kernel
theorem inbS (f : Fin 4) (s : Fin 15) : ∀ a, (![f.val, s.val] : Fin 2 → ℕ) a + S1x1.size a ≤ S4x15.size a := by
  revert f s; decide +kernel
theorem inbT (f : Fin 4) (k : Fin 16) : ∀ a, (![f.val, k.val] : Fin 2 → ℕ) a + S1x1.size a ≤ S4x16.size a := by
  revert f k; decide +kernel

abbrev rC (f : Fin 4) (s : Fin 16) : Rect S4x16x256x512 := Rect.unit (s := S4x16x256x512) ![f.val, s.val, 0, 0] S1x1x256x512.size (inbC f s)
abbrev rG (f : Fin 4) (b : Fin 2) : Rect S4x2x256x512 := Rect.unit (s := S4x2x256x512) ![f.val, b.val, 0, 0] S1x1x256x512.size (inbG f b)
abbrev rW (f : Fin 4) : Rect S256x2048 := Rect.unit (s := S256x2048) ![0, 512 * f.val] S256x512.size (inbW f)

theorem wordsC (f : Fin 4) (s : Fin 16) : (rC f s).WholeWords (EltTy.packing .bf16) := by revert f s; decide +kernel
theorem packedC (f : Fin 4) (s : Fin 16) : (rC f s).PackedRows (EltTy.packing .bf16) := by revert f s; decide +kernel

/-- Slot `s` of flow `f` of the travelling buffer. -/
def cV (f : Fin 4) (s : Fin 16) : Memref sig .tc .vmem S256x512 .bf16 := (cM.slice (rC f s) (fun _ => rfl)).squeeze S256x512 squeezes_S1x1x256x512_S256x512
/-- Staging block `b` of flow `f`. -/
def gV (f : Fin 4) (b : Fin 2) : Memref sig .tc .vmem S256x512 .f32 := (gM.slice (rG f b) (fun _ => rfl)).squeeze S256x512 squeezes_S1x1x256x512_S256x512

/-- Semaphore `(f, s)` of a 4 × 15 array. -/
def sem15 (a : DmaSems sig S4x15) (f : Fin 4) (s : Fin 15) : DmaSem sig := ((a.slice (Rect.unit (s := S4x15) ![f.val, s.val] S1x1.size (inbS f s))).squeeze S_ squeezes_S1x1_S_).sem
/-- Semaphore `(f, k)` of a 4 × 16 array. -/
def sem16 (a : DmaSems sig S4x16) (f : Fin 4) (k : Fin 16) : DmaSem sig := ((a.slice (Rect.unit (s := S4x16) ![f.val, k.val] S1x1.size (inbT f k))).squeeze S_ squeezes_S1x1_S_).sem

abbrev stS (f : Fin 4) (k : Fin 16) : DmaSem sig := sem16 cc0_scratch2 f k
abbrev rsS (f : Fin 4) (s : Fin 15) : DmaSem sig := sem15 cc0_scratch3 f s
abbrev rsR (f : Fin 4) (s : Fin 15) : DmaSem sig := sem15 cc0_scratch4 f s
abbrev agS (f : Fin 4) (s : Fin 15) : DmaSem sig := sem15 cc0_scratch5 f s
abbrev agR (f : Fin 4) (s : Fin 15) : DmaSem sig := sem15 cc0_scratch6 f s
abbrev barS : Sem sig := (SemArray.scalar (sig.barrier 0 rfl) : Sems sig S_).sem
abbrev exS : Sem sig := (cc0_scoped0 : Sems sig S_).sem

/-! ## Neighbours and offsets, as the kernel computes them -/

/-- The device flow `f` of device `d` sends to. -/
def tgt (f : Fin 4) (d : Dev nD) : Dev nD := match f with
  | 0 => ⟨k0_dev2 d, k0_dev2_lt d⟩ | 1 => ⟨k0_dev2 d, k0_dev2_lt d⟩ | 2 => ⟨k0_dev1 d, k0_dev1_lt d⟩ | 3 => ⟨k0_dev1 d, k0_dev1_lt d⟩

/-- `n` for the flows going right, `-n` for those going left, as words. -/
def cst (f : Fin 4) (n : ℕ) : BitVec 32 := match f with
  | 0 => BitVec.ofNat 32 n | 1 => BitVec.ofNat 32 n | 2 => BitVec.ofNat 32 (4294967296 - n) | 3 => BitVec.ofNat 32 (4294967296 - n)

/-- The rows of `x` step `s` of flow `f` multiplies. -/
def xOff (d : Dev nD) (f : Fin 4) (s : Fin 15) : Fin 2 → ℕ := k0_off2 d (cst f (s.val + 1))
theorem xOff_inb (d : Dev nD) (f : Fin 4) (s : Fin 15) : ∀ a, xOff d f s a + S256x256.size a ≤ S4096x256.size a := by
  revert d f s; decide +kernel

/-- The block of the result store `k` of flow `f` writes. -/
def oOff (d : Dev nD) (f : Fin 4) (k : Fin 16) : Fin 2 → ℕ := match k with
  | ⟨0, _⟩ => match f with | 0 => k0_off3 d | 1 => k0_off4 d | 2 => k0_off5 d | 3 => k0_off6 d
  | ⟨t + 1, _⟩ => match f with | 0 => k0_off7 d (cst 0 t) | 1 => k0_off9 d (cst 1 t) | 2 => k0_off8 d (cst 2 t) | 3 => k0_off10 d (cst 3 t)
theorem oOff_inb (d : Dev nD) (f : Fin 4) (k : Fin 16) : ∀ a, oOff d f k a + S256x512.size a ≤ S4096x2048.size a := by
  revert d f k; decide +kernel

def oV (d : Dev nD) (f : Fin 4) (k : Fin 16) : Memref sig .tc .hbm S256x512 .f32 :=
  oM.slice (Rect.unit (s := S4096x2048) (oOff d f k) S256x512.size (oOff_inb d f k)) (fun _ => rfl)

/-- The slot all-gather step `t` sends from. -/
def agSrc (t : Fin 15) : Fin 16 := ⟨(t.val + 15) % 16, Nat.mod_lt _ (by decide)⟩
/-- The slot store `k` reads. -/
def stSrc (k : Fin 16) : Fin 16 := ⟨(k.val + 15) % 16, Nat.mod_lt _ (by decide)⟩
/-- The staging block store `k` uses. -/
def par (k : Fin 16) : Fin 2 := ⟨k.val % 2, Nat.mod_lt _ (by decide)⟩

/-! ## What is computed -/

/-- A tile's product: rows of `x` as they are, columns of `w` scaled. -/
def tile (x : Vec F S256x256 .i8) (w : Vec F S256x512 .i8) (a b : Elt F .f32) : FVec F S256x512 .f32 :=
  matmul dot_S256x256_S256x512_S256x512_1_0_0_1_n_n none (sitofp .bf16 (shapeCast S256x256 x shapeCasts_S256x256_S256x256 : IVec S256x256 8))
    (truncf .bf16 (mulf (sitofp .f32 (shapeCast S256x512 w shapeCasts_S256x512_S256x512 : IVec S256x512 8)) (broadcast S256x512 (Scalar.mulf a b))) bitsLt_bf16_f32)
    (constant S256x512 .f32 0x00000000#32)

/-- A flow's first partial sum, as stored. -/
def initPay (x : Vec F S256x256 .i8) (w : Vec F S256x512 .i8) (a b : Elt F .f32) : FVec F S1x1x256x512 .bf16 :=
  shapeCast S1x1x256x512 (truncf .bf16 (tile x w a b) bitsLt_bf16_f32) shapeCasts_S256x512_S1x1x256x512

/-- A received partial sum with this device's product added, as stored. -/
def accPay (v : Vec F S1x1x256x512 .bf16) (x : Vec F S256x256 .i8) (w : Vec F S256x512 .i8) (a b : Elt F .f32) : FVec F S1x1x256x512 .bf16 :=
  shapeCast S1x1x256x512 (truncf .bf16 (addf (extf .f32 (shapeCast S256x512 v shapeCasts_S1x1x256x512_S256x512 : FVec F S256x512 .bf16) bitsLt_bf16_f32)
    (tile x w a b)) bitsLt_bf16_f32) shapeCasts_S256x512_S1x1x256x512

/-- A finished block widened for the result. -/
def outPay (v : Vec F S1x1x256x512 .bf16) : FVec F S1x1x256x512 .f32 :=
  shapeCast S1x1x256x512 (extf .f32 (shapeCast S256x512 v shapeCasts_S1x1x256x512_S256x512 : FVec F S256x512 .bf16) bitsLt_bf16_f32 : FVec F S256x512 .f32) shapeCasts_S256x512_S1x1x256x512

/-! ## The steps -/

/-- The body's steps. -/
inductive Stp where
  | bar | init (f : Fin 4) | rsSend (f : Fin 4) (s : Fin 15) | rsWait (f : Fin 4) (s : Fin 15) | rsAcc (f : Fin 4) (s : Fin 15)
  | agSend (f : Fin 4) (t : Fin 15) | agWait (f : Fin 4) (t : Fin 15)
  | stage (f : Fin 4) (k : Fin 16) | stStart (f : Fin 4) (k : Fin 16) | stWait (f : Fin 4) (k : Fin 16)
  | rsDrain (f : Fin 4) (s : Fin 15) | agDrain (f : Fin 4) (t : Fin 15) | exit

variable (F) in
abbrev PP (α : Type) : Type 1 := Prog (TpuEff nD τ sig (Elt F) Λ₀ .tc) α

theorem hcM : cM.IsWhole := Memref.isWhole_whole _

abbrev loadC (f : Fin 4) (s : Fin 16) : PP F (Vec F S1x1x256x512 .bf16) := Prog.lift (.load cM (rC f s).toLoadRect (View.loadsAt_vmem h_S1x1x256x512))
abbrev storeC (f : Fin 4) (s : Fin 16) (v : FVec F S1x1x256x512 .bf16) : PP F PUnit :=
  Prog.lift (.store cM (rC f s) v Finset.univ (View.stores_vmem h_S1x1x256x512 (hcM.storeExact_slice rfl _ (packedC f s)) (fun _ => rfl)) (.inl rfl))
abbrev loadSx : PP F (Elt F .f32) := smemLoad axM (Rect.unit (s := S1) ![0] S1.size inb_S1_S1_0) numel1_S1 rfl
abbrev loadSw : PP F (Elt F .f32) := smemLoad awM (Rect.unit (s := S1) ![0] S1.size inb_S1_S1_0) numel1_S1 rfl
abbrev loadW (f : Fin 4) : PP F (Vec F S256x512 .i8) := Prog.lift (.load wM (rW f).toLoadRect (View.loadsAt_vmem h_S256x512))

theorem exactC (f : Fin 4) (s : Fin 16) : (cV f s).view.WordExact := (hcM.wordExact_slice rfl _ (wordsC f s)).reshape _ _

def sendC (d : Dev nD) (f : Fin 4) (s s' : Fin 16) (sS sR : DmaSem sig) : PP F PUnit :=
  Prog.lift (.enqueueDma (cV f s) (.remote (Dev.tc (tgt f d)) (cV f s') (.dma sS)) (.dma sR) (exactC f s) (exactC f s') ⟨⟨rfl, Or.inl rfl⟩, trivial⟩)

def waitC (f : Fin 4) (s s' : Fin 16) (q : DmaSem sig) : PP F PUnit := Prog.lift (.waitDma2 q (cV f s) (cV f s') (exactC f s) (exactC f s'))

/-- What a step does on device `d`. -/
def run (d : Dev nD) : Stp → PP F PUnit
  | .bar => do
      semSignalWord (⟨k0_dev1 d, k0_dev1_lt d⟩ : Dev nD) barS 1#32
      semSignalWord (⟨k0_dev2 d, k0_dev2_lt d⟩ : Dev nD) barS 1#32
      semWaitWord barS 2#32
  | .init f => do
      let x ← Prog.lift (.load xM (Rect.unit (s := S4096x256) (k0_off1 d) S256x256.size (k0_off1_inb d)).toLoadRect (View.loadsAt_vmem h_S256x256))
      let w ← loadW f
      let a ← loadSx
      let b ← loadSw
      let _ ← loadC f 0
      storeC f 0 (initPay x w a b)
  | .rsSend f s => sendC d f s.castSucc s.succ (rsS f s) (rsR f s)
  | .rsWait f s => waitC f s.castSucc s.succ (rsR f s)
  | .rsAcc f s => do
      let v ← loadC f s.succ
      let x ← Prog.lift (.load xM (Rect.unit (s := S4096x256) (xOff d f s) S256x256.size (xOff_inb d f s)).toLoadRect (View.loadsAt_vmem h_S256x256))
      let w ← loadW f
      let a ← loadSx
      let b ← loadSw
      let _ ← loadC f s.succ
      storeC f s.succ (accPay v x w a b)
  | .agSend f t => sendC d f (agSrc t) t.castSucc (agS f t) (agR f t)
  | .agWait f t => waitC f (agSrc t) t.castSucc (agR f t)
  | .stage f k => do
      let v ← loadC f (stSrc k)
      let _ : Vec F S1x1x256x512 .f32 ← Prog.lift (.load gM (rG f (par k)).toLoadRect (View.loadsAt_vmem h_S1x1x256x512))
      Prog.lift (.store gM (rG f (par k)) (outPay v) Finset.univ (View.stores_vmem_bits_univ h_S1x1x256x512 rfl) (.inl rfl))
  | .stStart f k => Prog.lift (.enqueueDma (gV f (par k)) (.here (oV d f k)) (.dma (stS f k)) ((View.wordExact_bits rfl).reshape _ _) (View.wordExact_bits rfl) ⟨Or.inl rfl, trivial⟩)
  | .stWait f k => Prog.lift (.waitDma2 (stS f k) (gV f (par k)) (oV d f k) ((View.wordExact_bits rfl).reshape _ _) (View.wordExact_bits rfl))
  | .rsDrain f s => waitC f s.succ s.castSucc (rsS f s)
  | .agDrain f t => waitC f t.castSucc (agSrc t) (agS f t)
  | .exit => do
      semSignalWord (⟨k0_dev1 d, k0_dev1_lt d⟩ : Dev nD) exS 1#32
      semSignalWord (⟨k0_dev2 d, k0_dev2_lt d⟩ : Dev nD) exS 1#32
      semWaitWord exS 2#32

/-- The steps of a list, one after the other. -/
def runs (d : Dev nD) : List Stp → PP F PUnit
  | [] => pure ⟨⟩
  | a :: l => run d a >>= fun _ => runs d l

abbrev body {α : Sort*} (B : (arg0 : Memref sig .tc .vmem S4096x256 .i8) → (harg0 : arg0.IsWhole) → (arg1 : Memref sig .tc .vmem S256x2048 .i8) → (harg1 : arg1.IsWhole) →
    (arg2 : Memref sig .tc .smem S1 .f32) → (harg2 : arg2.IsWhole) → (arg3 : Memref sig .tc .smem S1 .f32) → (harg3 : arg3.IsWhole) →
    (arg4 : Memref sig .tc .hbm S4096x2048 .f32) → (harg4 : arg4.IsWhole) → (arg5 : Memref sig .tc .vmem S4x16x256x512 .bf16) → (harg5 : arg5.IsWhole) →
    (arg6 : Memref sig .tc .vmem S4x2x256x512 .f32) → (harg6 : arg6.IsWhole) → (arg7 : DmaSems sig S4x16) → (arg8 arg9 arg10 arg11 : DmaSems sig S4x15) → (e : Sems sig S_) → α) : α :=
  B xM (Memref.isWhole_whole _) wM (Memref.isWhole_whole _) axM (Memref.isWhole_whole _) awM (Memref.isWhole_whole _) oM (Memref.isWhole_whole _) cM (Memref.isWhole_whole _)
    gM (Memref.isWhole_whole _) cc0_scratch2 cc0_scratch3 cc0_scratch4 cc0_scratch5 cc0_scratch6 cc0_scoped0

/-- The flows in the order the kernel serves them. -/
def order : List (Fin 4) := [0, 2, 1, 3]
/-- The flows in the order they are started. -/
def order₀ : List (Fin 4) := [0, 1, 2, 3]
/-- The steps of a ring. -/
def ring : List (Fin 15) := [0, 1, 2, 3, 4, 5, 6, 7, 8, 9, 10, 11, 12, 13, 14]

/-- Store `k` of flow `f`, once its staging block is free. -/
def emit (f : Fin 4) (k : Fin 16) : List Stp :=
  (if h : 2 ≤ k.val then [.stWait f ⟨k.val - 2, by omega⟩] else []) ++ [.stage f k, .stStart f k]

/-- One step of the reduction for one flow. -/
def rsSteps (s : Fin 15) (f : Fin 4) : List Stp :=
  [.rsWait f s, .rsAcc f s] ++ (if h : s.val < 14 then [.rsSend f ⟨s.val + 1, by omega⟩] else [])

/-- One step of the gathering for one flow. -/
def agSteps (t : Fin 15) (f : Fin 4) : List Stp :=
  [.agWait f t] ++ (if h : t.val < 14 then [.agSend f ⟨t.val + 1, by omega⟩] else []) ++ emit f t.succ

/-- The order in which the copies of a ring step were started. -/
def issued (s : Fin 15) : List (Fin 4) := if s.val = 0 then order₀ else order

def secInit : List Stp := order₀.flatMap fun f => [.init f, .rsSend f 0]
def secRs : List Stp := ring.flatMap fun s => order.flatMap (rsSteps s)
def secTurn : List Stp := order₀.flatMap fun f => .agSend f 0 :: emit f 0
def secAg : List Stp := ring.flatMap fun t => order.flatMap (agSteps t)
def secDrain : List Stp := (ring.flatMap fun s => (issued s).map (Stp.rsDrain · s)) ++ (ring.flatMap fun s => (issued s).map (Stp.agDrain · s))
def secLast : List Stp := order₀.flatMap fun f => [.stWait f 14, .stWait f 15]

/-- All the steps but the last. -/
def steps : List Stp := .bar :: (secInit ++ secRs ++ secTurn ++ secAg ++ secDrain ++ secLast)

set_option maxRecDepth 1000000 in
set_option maxHeartbeats 0 in
/-- The body is its steps, one after the other. -/
theorem body_eq : (body cc0_body : PP F _) = (Prog.lift .deviceId >>= fun d => runs d (steps ++ [.exit])) := rfl

end Cert.KernelIdeal.Ring
-- ==== Proof.Cells.lean ====
/-
  The semaphores of one device named by their place in the protocol, the neighbours around the ring, and the
  sizes and levels of the cells.
-/
module

public import proofs.«01_k».proof.Proof.Fold
public import proofs.«01_k».proof.Proof.Gen.KernelIdeal.Launch
public import Idealize.ShloMosaic.Lib.Pipeline.Launch
public import Idealize.ShloMosaic.Lib.Pipeline.Kit
public import Idealize.ShloMosaic.Lib.Rounds
public import Idealize.ShloMosaic.Lib.Tactic
public import Mathlib.Logic.Function.Basic

@[expose] public section

noncomputable section

namespace Cert.KernelIdeal.Ring

open Cert.KernelIdeal Cert.KernelIdeal.Gen
open Idealize.ShloMosaic
open Idealize.ShloMosaic.TcCoe
open Idealize.SL.Sem

/-! ## Neighbours -/

/-- The left and the right neighbour. -/
def Lf (d : Dev nD) : Dev nD := ⟨k0_dev1 d, k0_dev1_lt d⟩
def Rt (d : Dev nD) : Dev nD := ⟨k0_dev2 d, k0_dev2_lt d⟩

theorem Lf_Rt (d : Dev nD) : Lf (Rt d) = d := by revert d; decide +kernel
theorem Rt_Lf (d : Dev nD) : Rt (Lf d) = d := by revert d; decide +kernel

/-- The device flow `f` of device `d` receives from. -/
def prv (f : Fin 4) (d : Dev nD) : Dev nD := match f with
  | 0 => Lf d | 1 => Lf d | 2 => Rt d | 3 => Rt d

theorem prv_tgt (f : Fin 4) (d : Dev nD) : prv f (tgt f d) = d := by revert f d; decide +kernel
theorem tgt_prv (f : Fin 4) (d : Dev nD) : tgt f (prv f d) = d := by revert f d; decide +kernel

/-- `n` devices back along flow `f`. -/
def back (f : Fin 4) : ℕ → Dev nD → Dev nD
  | 0, d => d
  | n + 1, d => back f n (prv f d)
/-- `n` devices forward along flow `f`. -/
def fwd (f : Fin 4) : ℕ → Dev nD → Dev nD
  | 0, d => d
  | n + 1, d => fwd f n (tgt f d)

theorem back_tgt (f : Fin 4) (n : ℕ) (d : Dev nD) : back f (n + 1) (tgt f d) = back f n d := by
  rw [back, prv_tgt]
theorem back_around (f : Fin 4) (d : Dev nD) (i : Fin 15) : back f (15 - i.val) d = fwd f (i.val + 1) d := by
  revert f d i; decide +kernel

/-! ## The cells of a device -/

/-- The semaphores of a device by their place in the protocol: the barrier, the exit semaphore, the store semaphores,
    and the send and receive semaphores of the reduction and of the gathering. -/
inductive CK where
  | bar | exit | st (f : Fin 4) (k : Fin 16) | rsS (f : Fin 4) (s : Fin 15) | rsR (f : Fin 4) (s : Fin 15)
  | agS (f : Fin 4) (t : Fin 15) | agR (f : Fin 4) (t : Fin 15)
  deriving DecidableEq

/-- The semaphore a cell name stands for. -/
def osem : CK → SemLoc sig
  | .bar => .reg barS
  | .exit => .reg exS
  | .st f k => .dma (Ring.stS f k)
  | .rsS f s => .dma (Ring.rsS f s)
  | .rsR f s => .dma (Ring.rsR f s)
  | .agS f s => .dma (Ring.agS f s)
  | .agR f s => .dma (Ring.agR f s)

/-- The number of a semaphore in its pool. -/
def semNo : SemLoc sig → ℕ
  | .reg s => s.val
  | .dma s => 1000 + s.val

def ckNo : CK → ℕ
  | .bar => 0
  | .exit => 1
  | .st f k => 1004 + (f.val * 16 + k.val)
  | .rsS f s => 1068 + (f.val * 15 + s.val)
  | .rsR f s => 1128 + (f.val * 15 + s.val)
  | .agS f s => 1188 + (f.val * 15 + s.val)
  | .agR f s => 1248 + (f.val * 15 + s.val)

theorem no_st (f : Fin 4) (k : Fin 16) : semNo (osem (.st f k)) = ckNo (.st f k) := by revert f k; decide +kernel
theorem no_rsS (f : Fin 4) (k : Fin 15) : semNo (osem (.rsS f k)) = ckNo (.rsS f k) := by revert f k; decide +kernel
theorem no_rsR (f : Fin 4) (k : Fin 15) : semNo (osem (.rsR f k)) = ckNo (.rsR f k) := by revert f k; decide +kernel
theorem no_agS (f : Fin 4) (k : Fin 15) : semNo (osem (.agS f k)) = ckNo (.agS f k) := by revert f k; decide +kernel
theorem no_agR (f : Fin 4) (k : Fin 15) : semNo (osem (.agR f k)) = ckNo (.agR f k) := by revert f k; decide +kernel

theorem semNo_osem (k : CK) : semNo (osem k) = ckNo k := by
  rcases k with _ | _ | ⟨f, k⟩ | ⟨f, k⟩ | ⟨f, k⟩ | ⟨f, k⟩ | ⟨f, k⟩
  · decide +kernel
  · decide +kernel
  · exact no_st f k
  · exact no_rsS f k
  · exact no_rsR f k
  · exact no_agS f k
  · exact no_agR f k

theorem ckNo_inj : Function.Injective ckNo := by
  rintro (_ | _ | ⟨f, k⟩ | ⟨f, k⟩ | ⟨f, k⟩ | ⟨f, k⟩ | ⟨f, k⟩) (_ | _ | ⟨f', k'⟩ | ⟨f', k'⟩ | ⟨f', k'⟩ | ⟨f', k'⟩ | ⟨f', k'⟩) h <;>
    simp only [ckNo] at h <;> first
    | rfl
    | (exfalso; omega)
    | (have h1 : f = f' := Fin.ext (by omega)
       have h2 : k = k' := Fin.ext (by subst h1; omega)
       subst h1; subst h2; rfl)

theorem osem_inj : Function.Injective osem := fun a b h =>
  ckNo_inj (by rw [← semNo_osem, ← semNo_osem, h])

/-- The cell name of a semaphore, if it has one. -/
def dec (s : SemLoc sig) : Option CK := Function.partialInv osem s
theorem dec_osem (k : CK) : dec (osem k) = some k := Function.partialInv_left osem_inj k
theorem dec_none {s : SemLoc sig} (h : ∀ k, osem k ≠ s) : dec s = none := by
  unfold dec Function.partialInv; rw [dif_neg (fun ⟨k, hk⟩ => h k hk)]
theorem dec_some {s : SemLoc sig} {k : CK} (h : dec s = some k) : osem k = s := by
  unfold dec at h; exact (Function.partialInv_of_injective osem_inj k s).mp h

/-- All the cell names. -/
def flows : List (Fin 4) := [0, 1, 2, 3]
def slots : List (Fin 16) := [0, 1, 2, 3, 4, 5, 6, 7, 8, 9, 10, 11, 12, 13, 14, 15]
def pairs15 : List (Fin 4 × Fin 15) := flows.flatMap fun f => ring.map fun s => (f, s)
def pairs16 : List (Fin 4 × Fin 16) := flows.flatMap fun f => slots.map fun s => (f, s)
/-- The cells other than the barrier. -/
def ownCK : List CK := .exit :: (pairs16.map (fun p => CK.st p.1 p.2) ++ pairs15.map (fun p => CK.rsS p.1 p.2) ++ pairs15.map (fun p => CK.rsR p.1 p.2)
  ++ pairs15.map (fun p => CK.agS p.1 p.2) ++ pairs15.map (fun p => CK.agR p.1 p.2))
def allCK : List CK := .bar :: ownCK

theorem mem_pairs15 (p : Fin 4 × Fin 15) : p ∈ pairs15 := by revert p; decide +kernel
theorem mem_pairs16 (p : Fin 4 × Fin 16) : p ∈ pairs16 := by revert p; decide +kernel
theorem nodup_pairs15 : pairs15.Nodup := by decide +kernel
theorem nodup_pairs16 : pairs16.Nodup := by decide +kernel

theorem mem_allCK (k : CK) : k ∈ allCK := by
  have h15 := mem_pairs15
  have h16 := mem_pairs16
  rcases k with _ | _ | ⟨f, k⟩ | ⟨f, k⟩ | ⟨f, k⟩ | ⟨f, k⟩ | ⟨f, k⟩ <;> simp [allCK, ownCK, h15, h16]
theorem nodup_allCK : allCK.Nodup := by decide +kernel

instance : Fintype CK := ⟨⟨allCK, nodup_allCK⟩, mem_allCK⟩

/-- The device whose cell `k` device `d` pays duty `b` of. A barrier or exit cell has two duties: `true` its left
    neighbour's, `false` its right neighbour's. -/
def pd : CK → Bool → Dev nD → Dev nD
  | .bar, b, d => if b then Rt d else Lf d
  | .exit, b, d => if b then Rt d else Lf d
  | .st _ _, _, d => d
  | .rsS _ _, _, d => d
  | .rsR f _, _, d => tgt f d
  | .agS _ _, _, d => d
  | .agR f _, _, d => tgt f d
/-- The device that pays duty `b` of cell `k` of device `c`. -/
def pdInv : CK → Bool → Dev nD → Dev nD
  | .bar, b, d => if b then Lf d else Rt d
  | .exit, b, d => if b then Lf d else Rt d
  | .st _ _, _, d => d
  | .rsS _ _, _, d => d
  | .rsR f _, _, d => prv f d
  | .agS _ _, _, d => d
  | .agR f _, _, d => prv f d

theorem pdInv_pd (k : CK) (b : Bool) (d : Dev nD) : pdInv k b (pd k b d) = d := by
  rcases k with _ | _ | ⟨f, k⟩ | ⟨f, k⟩ | ⟨f, k⟩ | ⟨f, k⟩ | ⟨f, k⟩ <;> cases b <;> simp [pd, pdInv, Lf_Rt, Rt_Lf, prv_tgt]
theorem pd_pdInv (k : CK) (b : Bool) (d : Dev nD) : pd k b (pdInv k b d) = d := by
  rcases k with _ | _ | ⟨f, k⟩ | ⟨f, k⟩ | ⟨f, k⟩ | ⟨f, k⟩ | ⟨f, k⟩ <;> cases b <;> simp [pd, pdInv, Lf_Rt, Rt_Lf, tgt_prv]

def pdE (k : CK) (b : Bool) : Dev nD ≃ Dev nD := ⟨pd k b, pdInv k b, pdInv_pd k b, pd_pdInv k b⟩

/-- The credit of a transfer into a slot and of one into a block of the result. -/
abbrev Nc : ℕ := (cV 0 0).view.dmaCredit
abbrev Nst : ℕ := (oV 0 0 0).view.dmaCredit
theorem Nc_pos : 0 < Nc := View.dmaCredit_pos _ (by decide)
theorem Nst_pos : 0 < Nst := View.dmaCredit_pos _ (by decide)
theorem credit_cV (f : Fin 4) (s : Fin 16) : (cV f s).view.dmaCredit = Nc := rfl
theorem credit_oV (d : Dev nD) (f : Fin 4) (s : Fin 16) : (oV d f s).view.dmaCredit = Nst := rfl

/-- What one duty of a cell contributes. -/
def amt1 : CK → ℕ
  | .bar => 1 | .exit => 1
  | .st _ _ => Nst
  | .rsS _ _ => Nc | .rsR _ _ => Nc | .agS _ _ => Nc | .agR _ _ => Nc

/-- A cell's duties. -/
def duts : CK → Finset Bool
  | .bar => {true, false} | .exit => {true, false}
  | .st _ _ => {true} | .rsS _ _ => {true} | .rsR _ _ => {true} | .agS _ _ => {true} | .agR _ _ => {true}

/-- What a wait on a cell consumes. -/
def amt : CK → ℕ
  | .bar => 2 | .exit => 2
  | .st _ _ => Nst
  | .rsS _ _ => Nc | .rsR _ _ => Nc | .agS _ _ => Nc | .agR _ _ => Nc

theorem amt1_pos (k : CK) : 0 < amt1 k := by
  rcases k with _ | _ | ⟨f, k⟩ | ⟨f, k⟩ | ⟨f, k⟩ | ⟨f, k⟩ | ⟨f, k⟩
  · exact Nat.one_pos
  · exact Nat.one_pos
  · exact Nst_pos
  all_goals exact Nc_pos

theorem sum_duts (k : CK) : ∑ _d ∈ duts k, amt1 k = amt k := by
  rcases k with _ | _ | ⟨f, k⟩ | ⟨f, k⟩ | ⟨f, k⟩ | ⟨f, k⟩ | ⟨f, k⟩ <;> simp [duts, amt1, amt]

/-- The order of the waits. -/
def lvl : CK → ℕ
  | .bar => 1
  | .exit => 50
  | .rsR _ s => 2 + s.val
  | .agR _ t => 20 + t.val
  | _ => 0

/-- Cell `k` of device `c`. -/
abbrev cell (c : Dev nD) (k : CK) : GSem nD τ sig := ((c : Thread nD τ), osem k)

theorem cell_inj {c c' : Dev nD} {k k' : CK} (h : cell c k = cell c' k') : c = c' ∧ k = k' :=
  ⟨congrArg (fun g : GSem nD τ sig => g.1.1) h, osem_inj (congrArg Prod.snd h)⟩

end Cert.KernelIdeal.Ring
-- ==== Proof.Proto.lean ====
/-
  The protocol: what every slot holds when, the resources (atoms) the steps take and give, and the schedule of the cells.

  A chunk of flow `f` travels round the ring. Its journey leaves behind it the slots it went through, which the device
  holding the chunk owns (`fo`); when the reduction ends at a device, that device owns the slots of all others for this
  journey, and the gathering writes the finished chunk into them, handing the rest on (`re`).
-/
module

public import proofs.«01_k».proof.Proof.Cells

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

/-! ## Contents -/

variable (F) in
/-- What the devices' staged operands hold. -/
structure Inp where
  x : Dev nD → (cc0_stg0_0 : Ref sig .tc).ty.Contents (Elt F)
  w : Dev nD → (cc0_stg1_0 : Ref sig .tc).ty.Contents (Elt F)
  a : Dev nD → (cc0_stg2_0 : Ref sig .tc).ty.Contents (Elt F)
  b : Dev nD → (cc0_stg3_0 : Ref sig .tc).ty.Contents (Elt F)

variable (I : Inp F)

abbrev r1 : Rect S1 := Rect.unit (s := S1) ![0] S1.size inb_S1_S1_0
/-- The two scales. -/
def sxv (d : Dev nD) : Elt F .f32 := (axM.access r1).read (Elt F) (I.a d) (Shape.Idx.first (numel1_S1.symm ▸ Nat.one_pos))
def swv (d : Dev nD) : Elt F .f32 := (awM.access r1).read (Elt F) (I.b d) (Shape.Idx.first (numel1_S1.symm ▸ Nat.one_pos))
abbrev rX0 (d : Dev nD) : Rect S4096x256 := Rect.unit (s := S4096x256) (k0_off1 d) S256x256.size (k0_off1_inb d)
abbrev rXs (d : Dev nD) (f : Fin 4) (s : Fin 15) : Rect S4096x256 := Rect.unit (s := S4096x256) (xOff d f s) S256x256.size (xOff_inb d f s)
def x0v (d : Dev nD) : Vec F S256x256 .i8 := xM.view.readAt (Elt F) (rX0 d).toLoadRect (I.x d)
def xsv (d : Dev nD) (f : Fin 4) (s : Fin 15) : Vec F S256x256 .i8 := xM.view.readAt (Elt F) (rXs d f s).toLoadRect (I.x d)
def wv (d : Dev nD) (f : Fin 4) : Vec F S256x512 .i8 := wM.view.readAt (Elt F) (rW f).toLoadRect (I.w d)

/-- A device's first contribution to flow `f`. -/
def init₀ (f : Fin 4) (d : Dev nD) : FVec F S256x512 .bf16 := truncf .bf16 (tile (x0v I d) (wv I d f) (sxv I d) (swv I d)) bitsLt_bf16_f32
/-- A partial sum with the device's contribution added. -/
def acc (f : Fin 4) (s : Fin 15) (d : Dev nD) (v : FVec F S256x512 .bf16) : FVec F S256x512 .bf16 :=
  truncf .bf16 (addf (extf .f32 v bitsLt_bf16_f32) (tile (xsv I d f s) (wv I d f) (sxv I d) (swv I d))) bitsLt_bf16_f32

def m15 (n : ℕ) : Fin 15 := ⟨n % 15, Nat.mod_lt _ (by decide)⟩
def m16 (n : ℕ) : Fin 16 := ⟨n % 16, Nat.mod_lt _ (by decide)⟩
theorem m15_val (s : Fin 15) : m15 s.val = s := Fin.ext (Nat.mod_eq_of_lt s.isLt)
theorem m16_val (s : Fin 16) : m16 s.val = s := Fin.ext (Nat.mod_eq_of_lt s.isLt)

/-- Slot `n` of device `d` once `d` has added its part: the sum of `n + 1` devices' contributions. -/
def ps (f : Fin 4) : ℕ → Dev nD → FVec F S256x512 .bf16
  | 0, d => init₀ I f d
  | n + 1, d => acc I f (m15 n) d (ps f n (prv f d))

/-- The finished chunk slot `i` of device `d` holds during the gathering. -/
def fv (f : Fin 4) (i : Fin 16) (d : Dev nD) : FVec F S256x512 .bf16 := ps I f 15 (back f ((i.val + 1) % 16) d)

/-- A finished chunk as the result holds it. -/
def wide (v : FVec F S256x512 .bf16) : FVec F S256x512 .f32 := extf .f32 v bitsLt_bf16_f32

/-! ## Pieces of buffers -/

/-- Slot `s` of flow `f` of device `c`, at a share, holding `v`. -/
def slot (q : PosShare TreeShare) (f : Fin 4) (s : Fin 16) (c : Dev nD) (v : FVec F S256x512 .bf16) : sProp 𝕄 :=
  owns (c : Thread nD τ) (cV f s) q v
/-- The slot whole, holding something. -/
def slotE (f : Fin 4) (s : Fin 16) (c : Dev nD) : sProp 𝕄 := iprop(∃ v, slot fullShare f s c v)
/-- A staging block of device `c` holding `v`. -/
def stag (f : Fin 4) (b : Fin 2) (c : Dev nD) (v : FVec F S256x512 .f32) : sProp 𝕄 := owns (c : Thread nD τ) (gV f b) fullShare v
def stagE (f : Fin 4) (b : Fin 2) (c : Dev nD) : sProp 𝕄 := iprop(∃ v, stag f b c v)
/-- A block of device `c`'s result holding `v`. -/
def outb (f : Fin 4) (k : Fin 16) (c : Dev nD) (v : FVec F S256x512 .f32) : sProp 𝕄 := owns (c : Thread nD τ) (oV c f k) fullShare v
def outbE (f : Fin 4) (k : Fin 16) (c : Dev nD) : sProp 𝕄 := iprop(∃ v, outb f k c v)

/-- The slots a chunk now at slot `n` of device `d` has left behind. -/
def fo (f : Fin 4) (n : ℕ) (d : Dev nD) : sProp 𝕄 := bigSep (Finset.range n) fun i => slotE f (m16 i) (back f (n - i) d)
/-- The slots a finished chunk now in slot `t` of device `d` has still to be written to. -/
def re (f : Fin 4) (t : ℕ) (d : Dev nD) : sProp 𝕄 := bigSep (Finset.Ico (t + 1) 15) fun i => slotE f (m16 i) (fwd f (i - t) d)

/-- The staged operands of device `c`. -/
def inp (c : Dev nD) : sProp 𝕄 :=
  iprop(((c : Thread nD τ).loc cc0_stg0_0 ↦{fullShare} I.x c) ∗ ((c : Thread nD τ).loc cc0_stg1_0 ↦{fullShare} I.w c)
    ∗ ((c : Thread nD τ).loc cc0_stg2_0 ↦{fullShare} I.a c) ∗ ((c : Thread nD τ).loc cc0_stg3_0 ↦{fullShare} I.b c))

/-! ## The schedule -/

/-- The flows a device sends to the neighbour on its left (`true`: the one whose left neighbour signals) or right. -/
def fl : Bool → List (Fin 4)
  | true => [2, 3]
  | false => [0, 1]

/-- A list of resources. -/
def bigL {α : Type} (l : List α) (Φ : α → sProp 𝕄) : sProp 𝕄 := l.foldr (fun a P => iprop(Φ a ∗ P)) iprop(emp)

/-- What duty `b` of cell `k` hands the cell's device `c`. -/
def pay (k : CK) (c : Dev nD) (b : Bool) : sProp 𝕄 := match k with
  | .bar => bigL ((fl b).flatMap fun f => ring.map fun s => (f, s)) fun p => slotE p.1 p.2.succ (tgt p.1 c)
  | .exit => iprop(emp)
  | .st f k => iprop(stagE f (par k) c ∗ outb f k c (wide (fv I f (stSrc k) c)))
  | .rsS _ _ => iprop(emp)
  | .rsR f s => iprop(slot fullShare f s.succ c (ps I f s.val (prv f c)) ∗ fo f (s.val + 1) c)
  | .agS f t => slot fullShare.right f (agSrc t) c (fv I f (agSrc t) c)
  | .agR f t => iprop(slot fullShare f t.castSucc c (fv I f t.castSucc c) ∗ re f t.val c)

def sched : Rounds.Schedule (GSem nD τ sig) Bool 𝕄 where
  duties g r := match dec g.2 with
    | some k => if r = 0 ∧ g.1.2 = .tc then duts k else ∅
    | none => ∅
  unitless _ := False
  amount g _ _ := match dec g.2 with
    | some k => amt1 k
    | none => 1
  payload g _ b := match dec g.2 with
    | some k => pay I k g.1.1 b
    | none => iprop(emp)
  amount_pos g _ _ _ := by
    cases h : dec g.2 with
    | none => exact Nat.one_pos
    | some k => exact amt1_pos k

instance slot_storable (q) (f : Fin 4) (s : Fin 16) (c : Dev nD) (v : FVec F S256x512 .bf16) : BI.Storable (upEmb : UEmb _ 𝕄) (slot q f s c v) := by
  unfold slot; infer_instance
instance slotE_storable (f : Fin 4) (s : Fin 16) (c : Dev nD) : BI.Storable (upEmb : UEmb _ 𝕄) (slotE (F := F) f s c) := by
  unfold slotE; infer_instance
instance bigL_storable {α : Type} (l : List α) (Φ : α → sProp 𝕄) [∀ a, BI.Storable (upEmb : UEmb _ 𝕄) (Φ a)] : BI.Storable (upEmb : UEmb _ 𝕄) (bigL l Φ) := by
  unfold bigL
  induction l with
  | nil => rw [List.foldr_nil]; infer_instance
  | cons a l ih => rw [List.foldr_cons]; infer_instance
instance pay_storable (k : CK) (c : Dev nD) (b : Bool) : BI.Storable (upEmb : UEmb _ 𝕄) (pay I k c b) := by
  unfold pay stagE stag outb fo re
  cases k <;> infer_instance

instance sched_payload_storable (g : GSem nD τ sig) (r : ℕ) (b : Bool) : BI.Storable (upEmb : UEmb _ 𝕄) ((sched I).payload g r b) := by
  show BI.Storable upEmb (match dec g.2 with | some k => pay I k g.1.1 b | none => iprop(emp))
  cases dec g.2 <;> infer_instance

theorem duties_cell (c : Dev nD) (k : CK) : (sched I).duties (cell c k) 0 = duts k := by
  dsimp only [sched]; rw [dec_osem]; exact if_pos ⟨rfl, rfl⟩
theorem duties_later (c : Dev nD) (k : CK) : ∀ r, 1 ≤ r → (sched I).duties (cell c k) r = ∅ := fun r hr => by
  dsimp only [sched]; rw [dec_osem]; exact if_neg fun h => by omega
theorem amount_cell (c : Dev nD) (k : CK) (b : Bool) : (sched I).amount (cell c k) 0 b = amt1 k := by
  dsimp only [sched]; rw [dec_osem]
theorem payload_cell (c : Dev nD) (k : CK) (b : Bool) : (sched I).payload (cell c k) 0 b = pay I k c b := by
  dsimp only [sched]; rw [dec_osem]
theorem expect_cell (c : Dev nD) (k : CK) : (sched I).expect (cell c k) 0 = amt k := by
  unfold Schedule.expect Schedule.amountOf; rw [duties_cell, ← sum_duts]
  exact Finset.sum_congr rfl fun b _ => amount_cell I c k b

/-! ## Levels -/

def L (g : GSem nD τ sig) : Finset Unit := if g.1.2 = .tc then {()} else ∅
def lv (g : GSem nD τ sig) (_ : Unit) : ℕ := match dec g.2 with
  | some k => lvl k
  | none => 0
theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : CK) (u : Unit) : lv (cell c k) u = lvl k := by dsimp only [lv]; rw [dec_osem]

/-- What is owed for the duties in a list. -/
def owed (d : Dev nD) (R : List (CK × Bool)) : CellTallies nD τ sig Unit := (R.map fun o => tallyAt (cell (pd o.1 o.2 d) o.1) () (amt1 o.1)).sum

theorem owed_pos {d : Dev nD} {R : List (CK × Bool)} {g : GSem nD τ sig} {u : Unit} (h : 0 < owed d R g u) :
    ∃ o ∈ R, g = cell (pd o.1 o.2 d) o.1 := by
  induction R with
  | nil => exact absurd h (Nat.lt_irrefl 0)
  | cons o R ih =>
    rw [owed, List.map_cons, List.sum_cons, Pi.add_apply, Finsupp.add_apply] at h
    by_cases h1 : g = cell (pd o.1 o.2 d) o.1
    · exact ⟨o, List.mem_cons_self, h1⟩
    · rw [tallyAt_ne_cell h1, Finsupp.zero_apply, Nat.zero_add] at h
      obtain ⟨o', ho', hg⟩ := ih h
      exact ⟨o', List.mem_cons_of_mem _ ho', hg⟩

theorem owed_cons (d : Dev nD) (o : CK × Bool) (R : List (CK × Bool)) :
    owed d (o :: R) = owed d R + tallyAt (cell (pd o.1 o.2 d) o.1) () (amt1 o.1) := by
  rw [owed, List.map_cons, List.sum_cons, add_comm]; rfl

/-- A wait is allowed while everything owed is of a higher level. -/
theorem mayWait_of (d : Dev nD) (sm : SemLoc sig) (n : ℕ) (hn : lv ((d : Thread nD τ), sm) () ≤ n) (R : List (CK × Bool)) (hR : ∀ o ∈ R, n < lvl o.1) :
    (levAts L lv : sProp 𝕄) ⊢ MayWait (d : Thread nD τ) sm () (owed d R) :=
  MayOwe.of_cut (L := L) (lev := lv) n (fun p hp => by rw [Finset.mem_singleton.mp hp, L_tc]; exact Finset.mem_singleton_self _)
    (fun g u hg => by obtain ⟨o, _, rfl⟩ := owed_pos hg; rw [L_tc]; exact Finset.mem_singleton_self _)
    (fun p hp => by rw [Finset.mem_singleton.mp hp]; exact hn)
    (fun g u hg => by obtain ⟨o, ho, rfl⟩ := owed_pos hg; rw [lv_cell]; exact hR o ho)

end Cert.KernelIdeal.Ring
-- ==== Proof.Steps.lean ====
/-
  What each kind of step takes and gives, proved once at a symbolic device, flow and place in the ring.
-/
module

public import proofs.«01_k».proof.Proof.Proto
public import Idealize.ShloMosaic.Lib.Pipeline.Value

@[expose] public section

set_option maxRecDepth 20000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F)

abbrev 𝒱₀ : Variants := Variants.none

/-! ## Lists of resources -/

section Lists
variable {α β : Type}

omit [FloatOps F] in
theorem bigL_nil (Φ : α → sProp 𝕄) : bigL [] Φ = iprop(emp) := rfl
omit [FloatOps F] in
theorem bigL_cons (a : α) (l : List α) (Φ : α → sProp 𝕄) : bigL (a :: l) Φ = iprop(Φ a ∗ bigL l Φ) := rfl
omit [FloatOps F] in
theorem bigL_append (l l' : List α) (Φ : α → sProp 𝕄) : bigL (l ++ l') Φ = iprop(bigL l Φ ∗ bigL l' Φ) := by
  induction l with
  | nil => exact (equiv_iff.mp emp_sep).symm
  | cons i l ih =>
    rw [List.cons_append, bigL_cons, bigL_cons, ih]
    exact sep_assoc'.antisymm sep_assoc
omit [FloatOps F] in
theorem bigL_map (g : β → α) (l : List β) (Φ : α → sProp 𝕄) : bigL (l.map g) Φ = bigL l fun i => Φ (g i) := by
  induction l with
  | nil => rfl
  | cons i l ih => rw [List.map_cons, bigL_cons, bigL_cons, ih]
omit [FloatOps F] in
theorem bigL_perm {l l' : List α} (h : l.Perm l') (Φ : α → sProp 𝕄) : bigL l Φ = bigL l' Φ := by
  induction h with
  | nil => rfl
  | cons a _ ih => rw [bigL_cons, bigL_cons, ih]
  | swap a b l =>
    rw [bigL_cons, bigL_cons, bigL_cons, bigL_cons]
    have h (x y z : sProp 𝕄) : iprop(x ∗ y ∗ z) ⊢ iprop(y ∗ x ∗ z) := by
      iintro ⟨H1, H2, H3⟩; isplitl [H2]; · iexact H2
      isplitl [H1]; · iexact H1
      iexact H3
    exact (h _ _ _).antisymm (h _ _ _)
  | trans _ _ ih ih' => rw [ih, ih']
omit [FloatOps F] in
theorem bigL_finset [DecidableEq α] (l : List α) (hn : l.Nodup) (Φ : α → sProp 𝕄) : bigL l Φ = bigSep l.toFinset Φ := by
  induction l with
  | nil => rfl
  | cons a l ih =>
    rw [List.nodup_cons] at hn
    rw [bigL_cons, List.toFinset_cons, bigSep_insert (by rw [List.mem_toFinset]; exact hn.1), ih hn.2]; rfl
omit [FloatOps F] in
theorem bigL_mono {l : List α} {Φ Ψ : α → sProp 𝕄} (h : ∀ a, Φ a ⊢ Ψ a) : bigL l Φ ⊢ bigL l Ψ := by
  induction l with
  | nil => exact .rfl
  | cons i l ih => rw [bigL_cons, bigL_cons]; exact BIClass.sep_mono (h i) ih

end Lists

/-! ## The slots left behind -/

omit [FloatOps F] in
theorem fo_zero (f : Fin 4) (d : Dev nD) : fo (F := F) f 0 d = iprop(emp) := rfl
omit [FloatOps F] in
theorem fo_succ (f : Fin 4) (s : Fin 15) (d : Dev nD) : fo (F := F) f (s.val + 1) (tgt f d) = iprop(slotE f s.castSucc d ∗ fo f s.val d) := by
  unfold fo
  rw [Finset.range_add_one, bigSep_insert Finset.notMem_range_self]
  have h (A B C D : sProp 𝕄) (h1 : A = C) (h2 : B = D) : BI.sep A B = iprop(C ∗ D) := by rw [h1, h2]; rfl
  refine h _ _ _ _ ?_ ?_
  · rw [Nat.add_sub_cancel_left, back_tgt, back, m16]; congr 1; exact Fin.ext (Nat.mod_eq_of_lt (by have := s.isLt; omega))
  · refine bigSep_congr fun i hi => ?_
    have hi := Finset.mem_range.mp hi
    rw [show s.val + 1 - i = (s.val - i) + 1 by omega, back_tgt]

theorem Ico_insert (a b : ℕ) (h : a < b) : Finset.Ico a b = insert a (Finset.Ico (a + 1) b) := by
  ext i; simp only [Finset.mem_Ico, Finset.mem_insert]; omega

omit [FloatOps F] in
theorem re_last (f : Fin 4) (d : Dev nD) : re (F := F) f 14 d = iprop(emp) := rfl
omit [FloatOps F] in
theorem re_step (f : Fin 4) (t : ℕ) (ht : t + 1 < 15) (d : Dev nD) :
    re (F := F) f t d = iprop(slotE f (m16 (t + 1)) (tgt f d) ∗ re f (t + 1) (tgt f d)) := by
  unfold re
  rw [Ico_insert _ _ ht, bigSep_insert (by simp)]
  have h (A B C D : sProp 𝕄) (h1 : A = C) (h2 : B = D) : BI.sep A B = iprop(C ∗ D) := by rw [h1, h2]; rfl
  refine h _ _ _ _ ?_ (bigSep_congr fun i hi => ?_)
  · rw [Nat.add_sub_cancel_left]; rfl
  · have hi := (Finset.mem_Ico.mp hi).1
    rw [show i - t = (i - (t + 1)) + 1 by omega]; rfl
omit [FloatOps F] in
theorem fo_turn (f : Fin 4) (d : Dev nD) : fo (F := F) f 15 d = iprop(slotE f 0 (tgt f d) ∗ re f 0 (tgt f d)) := by
  unfold fo re
  rw [Finset.range_eq_Ico, Ico_insert 0 15 (by decide), bigSep_insert (by simp)]
  have h (A B C D : sProp 𝕄) (h1 : A = C) (h2 : B = D) : BI.sep A B = iprop(C ∗ D) := by rw [h1, h2]; rfl
  refine h _ _ _ _ ?_ (bigSep_congr fun i hi => ?_)
  · rw [show 15 - 0 = 15 - ((0 : Fin 15) : ℕ) from rfl, back_around]; rfl
  · have hi := (Finset.mem_Ico.mp hi)
    have h := back_around f d ⟨i, hi.2⟩
    rw [h]; rfl

/-- What is handed on with a finished chunk that goes to slot `t`: that slot on the next device, and the rest. -/
def rest (f : Fin 4) (t : ℕ) (d : Dev nD) : sProp 𝕄 := if t = 0 then fo f 15 d else re f (t - 1) d

omit [FloatOps F] in
theorem rest_eq (f : Fin 4) (t : Fin 15) (d : Dev nD) : rest (F := F) f t.val d = iprop(slotE f t.castSucc (tgt f d) ∗ re f t.val (tgt f d)) := by
  obtain ⟨t, ht⟩ := t
  cases t with
  | zero => exact fo_turn f d
  | succ t =>
    rw [rest, if_neg (Nat.succ_ne_zero t), Nat.add_sub_cancel, re_step f t ht]
    congr 2
    exact Fin.ext (Nat.mod_eq_of_lt (by omega))

/-! ## Contents along the ring -/

theorem fv_last (f : Fin 4) (d : Dev nD) : fv I f 15 d = ps I f 15 d := rfl
theorem fv_next (f : Fin 4) (t : Fin 15) (d : Dev nD) : fv I f t.castSucc (tgt f d) = fv I f (agSrc t) d := by
  unfold fv
  have h1 : ((agSrc t).val + 1) % 16 = t.val := by revert t; decide
  have h2 : (t.castSucc.val + 1) % 16 = t.val + 1 := by revert t; decide
  rw [h1, h2, back_tgt]
theorem ps_acc (f : Fin 4) (s : Fin 15) (d : Dev nD) : ps I f (s.val + 1) d = acc I f s d (ps I f s.val (prv f d)) := by
  rw [ps, m15_val]

/-! ## The slots as the loads, the stores and the copies see them -/

theorem access_cV (f : Fin 4) (s : Fin 16) : (cM.access (rC f s)).set = (cV f s).view.set := ((cM.access (rC f s)).set_reshape _).symm
theorem access_gV (f : Fin 4) (b : Fin 2) : (gM.access (rG f b)).set = (gV f b).view.set := ((gM.access (rG f b)).set_reshape _).symm
theorem read_cV (f : Fin 4) (s : Fin 16) (g : (cc0_scratch0 : Ref sig .tc).ty.Contents (Elt F)) :
    shapeCast S256x512 ((cM.access (rC f s)).read (Elt F) g : Vec F S1x1x256x512 .bf16) shapeCasts_S1x1x256x512_S256x512 = (cV f s).view.read (Elt F) g := rfl
theorem write_cV (f : Fin 4) (s : Fin 16) (g : (cc0_scratch0 : Ref sig .tc).ty.Contents (Elt F)) (v : FVec F S256x512 .bf16) :
    (cV f s).view.read (Elt F) ((cM.access (rC f s)).write (Elt F) g (shapeCast S1x1x256x512 v shapeCasts_S256x512_S1x1x256x512 : FVec F S1x1x256x512 .bf16) Finset.univ) = v := by
  rw [← read_cV, View.read_write_univ]; exact shapeCast_shapeCast v _ _
theorem read_gV (f : Fin 4) (b : Fin 2) (g : (cc0_scratch1 : Ref sig .tc).ty.Contents (Elt F)) :
    shapeCast S256x512 ((gM.access (rG f b)).read (Elt F) g : Vec F S1x1x256x512 .f32) shapeCasts_S1x1x256x512_S256x512 = (gV f b).view.read (Elt F) g := rfl
theorem write_gV (f : Fin 4) (b : Fin 2) (g : (cc0_scratch1 : Ref sig .tc).ty.Contents (Elt F)) (v : FVec F S256x512 .f32) :
    (gV f b).view.read (Elt F) ((gM.access (rG f b)).write (Elt F) g (shapeCast S1x1x256x512 v shapeCasts_S256x512_S1x1x256x512 : FVec F S1x1x256x512 .f32) Finset.univ) = v := by
  rw [← read_gV, View.read_write_univ]; exact shapeCast_shapeCast v _ _

/-! ## What all devices know -/

variable (K : Dev nD × CK → ℕ)

/-- The invariants of all cells, that their only round is open, and the levels. -/
def ctx : sProp 𝕄 :=
  iprop((bigSep Finset.univ fun p : Dev nD × CK => iprop(cellInv ER (sched I) (K p) (cell p.1 p.2) ∗ reached ER (cell p.1 p.2) 0)) ∗ levAts L lv)

instance ctx_persistent : BI.Persistent (ctx I K) := by unfold ctx; infer_instance

theorem ctx_cell (c : Dev nD) (k : CK) : ctx I K ⊢ iprop(cellInv ER (sched I) (K (c, k)) (cell c k) ∗ reached ER (cell c k) 0) := by
  unfold ctx
  iintro ⟨#H, -⟩
  have he : (bigSep Finset.univ fun p : Dev nD × CK => iprop(cellInv ER (sched I) (K p) (cell p.1 p.2) ∗ reached ER (cell p.1 p.2) 0))
      ⊢ iprop(cellInv ER (sched I) (K (c, k)) (cell c k) ∗ reached ER (cell c k) 0) := bigSep_elim (Finset.mem_univ (c, k))
  ihave H2 := he $$ H
  iexact H2
theorem ctx_lev : ctx I K ⊢ levAts L lv := by unfold ctx; iintro ⟨-, #H⟩; iexact H

theorem ctx_may (d : Dev nD) (k : CK) (R : List (CK × Bool)) (hR : ∀ o ∈ R, lvl k < lvl o.1) :
    ctx I K ⊢ MayWait (d : Thread nD τ) (osem k) () (owed d R) :=
  (ctx_lev I K).trans (mayWait_of d (osem k) (lvl k) (le_of_eq (lv_cell d k ())) R hR)

/-- What device `d` still owes. -/
def OW (d : Dev nD) (R : List (CK × Bool)) : sProp 𝕄 := iprop(∃ W, owes (d : Thread nD τ) (owed d R) W)

abbrev WP (d : Dev nD) {α : Type} (p : PP F α) (Q : α → sProp 𝕄) : sProp 𝕄 :=
  wp frame (wpE (defs₀ (F := F)) 𝒱₀ (d : Thread nD τ) none) Set.univ p Q

/-! ## Waits and signals -/

section Moves

/-- A wait on any cell of the device. -/
theorem w_wait {α : Type} {Q : α → sProp 𝕄} (d : Dev nD) (k : CK) {w : TpuEff nD τ sig (Elt F) Λ₀ .tc PUnit}
    (hw : ∀ K : PUnit → sProp 𝕄, wpE (defs₀ (F := F)) 𝒱₀ (d : Thread nD τ) none Set.univ w K = waitSpec (d : Thread nD τ) Set.univ (osem k) (amt k) K)
    (R : List (CK × Bool)) (hR : ∀ o ∈ R, lvl k < lvl o.1) (j : PUnit → PP F α) :
    iprop(ctx I K ∗ OW d R ∗ cred (tallyAt (cell d k) () (amt k)) ∗ atPos ER (cell d k) 0 ∅ 0
        ∗ (OW d R ∗ atPos ER (cell d k) 1 ∅ 0 ∗ bigSep (duts k) (fun b => pay I k d b) -∗ WP d (j ⟨⟩) Q))
      ⊢ WP d (.op w j) Q := by
  have hm := ctx_may I K d k R hR
  unfold OW
  iintro ⟨#Hc, ⟨%W, HO⟩, Hcr, Hp, Hk⟩
  ihave H1 := (ctx_cell I K d k) $$ Hc
  icases H1 with ⟨#Hi, #Hr⟩
  iapply (Rounds.wp_wait_rest_token 𝒱₀ ER (sched I) (d : Thread nD τ) none (κ := K (d, k)) (sm := osem k) (k' := amt k)
      hw (Set.mem_univ _) () (O := owed d R) (W := W) (R := 0) (m := 0) (T := ∅) (by rw [Nat.zero_add]; exact (expect_cell I d k).symm)) $$ [HO Hcr Hp]
  · isplitr; · iexact Hi
    isplitl [Hcr]; · iexact Hcr
    isplitl [HO]; · iexact HO
    isplitr; · iapply hm; iexact Hc
    iexact Hp
  iintro ⟨HO, Hp, -, Hpay⟩
  iapply Hk
  isplitl [HO]; · iexists _; iexact HO
  isplitl [Hp]; · iexact Hp
  have hrest : bigSep ((sched I).duties ((d : Thread nD τ), osem k) 0 \ ∅) (fun b => (sched I).payload ((d : Thread nD τ), osem k) 0 b)
      = bigSep (duts k) (fun b => pay I k d b) := by
    rw [Finset.sdiff_empty, show (sched I).duties ((d : Thread nD τ), osem k) 0 = duts k from duties_cell I d k]
    exact bigSep_congr (fun b _ => payload_cell I d k b)
  ihave Hp2 := (Entails.of_eq hrest) $$ Hpay
  iexact Hp2

/-- A signal paying a duty of a barrier or exit cell. -/
theorem w_sig {α : Type} {Q : α → sProp 𝕄} (d e : Dev nD) (k : CK) (b : Bool) (s : Sem sig) (hs : osem k = .reg s) (hb : b ∈ duts k) (ha : amt1 k = 1) (he : e = pd k b d)
    (R : List (CK × Bool)) (j : PUnit → PP F α) :
    iprop(ctx I K ∗ OW d ((k, b) :: R) ∗ dutyTok ER (cell (pd k b d) k) 0 b ∗ pay I k (pd k b d) b
        ∗ (OW d R -∗ WP d (j ⟨⟩) Q))
      ⊢ WP d (.op (.semSignal (e : Thread nD τ) s 1) j) Q := by
  subst he
  unfold OW
  iintro ⟨#Hc, ⟨%W, HO⟩, Ht, Hp, Hk⟩
  ihave H1 := (ctx_cell I K (pd k b d) k) $$ Hc
  icases H1 with ⟨#Hi, #Hr⟩
  have hce : cell (pd k b d) k = ((pd k b d : Thread nD τ), .reg s) := by rw [cell, hs]
  iapply (Rounds.wp_signal 𝒱₀ ER (sched I) (d : Thread nD τ) none (dst := (pd k b d : Thread nD τ)) (κ := K (pd k b d, k)) (r := 0) (d := b)
      (by rw [← hce, duties_cell]; exact hb) ((congrArg (fun g => (sched I).amount g 0 b) hce.symm).trans ((amount_cell I _ k b).trans ha)) () (O₀ := owed d ((k, b) :: R)) (owed d R)
      (by rw [owed_cons, ← hce, ha])) $$ [HO Ht Hp]
  · rw [← hce]
    isplitr; · iexact Hi
    isplitl [HO]; · iexact HO
    isplitl [Ht]; · iexact Ht
    isplitl [Hp]; · rw [payload_cell]; iexact Hp
    iexact Hr
  iintro HO
  iapply Hk
  iexists W; iexact HO

end Moves

end Cert.KernelIdeal.Ring
-- ==== Proof.Moves.lean ====
/-
  The steps one by one: what each takes, what it gives, what it pays.
-/
module

public import proofs.«01_k».proof.Proof.Steps

@[expose] public section

set_option maxRecDepth 20000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × CK → ℕ)

section Moves

/-! ## Loads and stores -/

theorem w_loadX {α : Type} {Q : α → sProp 𝕄} (d : Dev nD) (r : LoadRect S4096x256) (hl : xM.view.LoadsAt r) (j : (r.shape.Idx → Elt F .i8) → PP F α) :
    iprop(inp I d ∗ (inp I d -∗ WP d (j (xM.view.readAt (Elt F) r (I.x d))) Q)) ⊢ WP d (.op (.load xM r hl) j) Q := by
  unfold inp
  iintro ⟨⟨H0, H1, H2, H3⟩, Hk⟩
  iapply (wp_load 𝒱₀ (d : Thread nD τ) none Set.univ (m := xM) (r := r) (S := Finset.univ) (q := fullShare) (f := I.x d) (Finset.subset_univ _)) $$ [H0]
  · iexact H0
  iintro H0
  iapply Hk
  isplitl [H0]; · iexact H0
  isplitl [H1]; · iexact H1
  isplitl [H2] <;> iassumption

theorem w_loadW {α : Type} {Q : α → sProp 𝕄} (d : Dev nD) (r : LoadRect S256x2048) (hl : wM.view.LoadsAt r) (j : (r.shape.Idx → Elt F .i8) → PP F α) :
    iprop(inp I d ∗ (inp I d -∗ WP d (j (wM.view.readAt (Elt F) r (I.w d))) Q)) ⊢ WP d (.op (.load wM r hl) j) Q := by
  unfold inp
  iintro ⟨⟨H0, H1, H2, H3⟩, Hk⟩
  iapply (wp_load 𝒱₀ (d : Thread nD τ) none Set.univ (m := wM) (r := r) (S := Finset.univ) (q := fullShare) (f := I.w d) (Finset.subset_univ _)) $$ [H1]
  · iexact H1
  iintro H1
  iapply Hk
  isplitl [H0]; · iexact H0
  isplitl [H1]; · iexact H1
  isplitl [H2] <;> iassumption

theorem w_loadSx {α : Type} {Q : α → sProp 𝕄} (d : Dev nD) (j : Elt F .f32 → PP F α) :
    iprop(inp I d ∗ (inp I d -∗ WP d (j (sxv I d)) Q)) ⊢ WP d (loadSx >>= j) Q := by
  simp only [loadSx, smemLoad, smemLoadElt, Prog.lift, Prog.bind_op, Prog.bind_ret, Prog.pure_eq_ret]
  unfold inp
  iintro ⟨⟨H0, H1, H2, H3⟩, Hk⟩
  iapply (wp_load_rect 𝒱₀ (d : Thread nD τ) none Set.univ (m := axM) (r := r1) (S := Finset.univ) (q := fullShare) (f := I.a d) (Finset.subset_univ _)) $$ [H2]
  · iexact H2
  iintro H2
  iapply Hk
  isplitl [H0]; · iexact H0
  isplitl [H1]; · iexact H1
  isplitl [H2] <;> iassumption

theorem w_loadSw {α : Type} {Q : α → sProp 𝕄} (d : Dev nD) (j : Elt F .f32 → PP F α) :
    iprop(inp I d ∗ (inp I d -∗ WP d (j (swv I d)) Q)) ⊢ WP d (loadSw >>= j) Q := by
  simp only [loadSw, smemLoad, smemLoadElt, Prog.lift, Prog.bind_op, Prog.bind_ret, Prog.pure_eq_ret]
  unfold inp
  iintro ⟨⟨H0, H1, H2, H3⟩, Hk⟩
  iapply (wp_load_rect 𝒱₀ (d : Thread nD τ) none Set.univ (m := awM) (r := r1) (S := Finset.univ) (q := fullShare) (f := I.b d) (Finset.subset_univ _)) $$ [H3]
  · iexact H3
  iintro H3
  iapply Hk
  isplitl [H0]; · iexact H0
  isplitl [H1]; · iexact H1
  isplitl [H2] <;> iassumption

/-- A load of a slot. -/
theorem w_loadC {α : Type} {Q : α → sProp 𝕄} (d : Dev nD) (q : PosShare TreeShare) (f : Fin 4) (s : Fin 16) (v : FVec F S256x512 .bf16) (j : Vec F S1x1x256x512 .bf16 → PP F α) :
    iprop(slot q f s d v
        ∗ (∀ u : Vec F S1x1x256x512 .bf16, ⌜(shapeCast S256x512 u shapeCasts_S1x1x256x512_S256x512 : FVec F S256x512 .bf16) = v⌝ -∗ slot q f s d v -∗ WP d (j u) Q))
      ⊢ WP d (loadC f s >>= j) Q := by
  simp only [loadC, Prog.lift, Prog.bind_op, Prog.bind_ret]
  unfold slot owns
  iintro ⟨⟨%g, %hg, H⟩, Hk⟩
  iapply (wp_load_rect 𝒱₀ (d : Thread nD τ) none Set.univ (m := cM) (r := rC f s) (S := (cV f s).view.set) (q := q) (f := g) (access_cV f s).le) $$ [H]
  · iexact H
  iintro H
  iapply Hk $$ [] [H]
  · ipureintro; rw [← hg]; rfl
  · iexists g; isplitr
    · ipureintro; exact hg
    · iexact H

/-- A store into a slot. -/
theorem w_storeC {α : Type} {Q : α → sProp 𝕄} (d : Dev nD) (f : Fin 4) (s : Fin 16) (v₀ v : FVec F S256x512 .bf16) (j : PUnit → PP F α) :
    iprop(slot fullShare f s d v₀ ∗ (slot fullShare f s d v -∗ WP d (j ⟨⟩) Q))
      ⊢ WP d (storeC f s (shapeCast S1x1x256x512 v shapeCasts_S256x512_S1x1x256x512) >>= j) Q := by
  simp only [storeC, Prog.lift, Prog.bind_op, Prog.bind_ret]
  unfold slot owns
  iintro ⟨⟨%g, %hg, H⟩, Hk⟩
  iapply (wp_store 𝒱₀ (d : Thread nD τ) none Set.univ (m := cM) (r := rC f s) (S := (cV f s).view.set) (f := g)
    (Mk := Finset.univ) (access_cV f s).le) $$ [H]
  · iexact H
  iintro H
  iapply Hk
  iexists _
  isplitr
  · ipureintro; exact write_cV f s g v
  · iexact H

/-! ## The computing steps -/

theorem s_init {α : Type} {Q : α → sProp 𝕄} (d : Dev nD) (f : Fin 4) (j : PUnit → PP F α) :
    iprop(inp I d ∗ slotE f 0 d ∗ (inp I d ∗ slot fullShare f 0 d (ps I f 0 d) -∗ WP d (j ⟨⟩) Q)) ⊢ WP d (run d (.init f) >>= j) Q := by
  unfold slotE
  iintro ⟨Hi, ⟨%v, Hs⟩, Hk⟩
  rw [run]
  simp only [Prog.lift, Prog.bind_op, Prog.bind_ret, bind_assoc]
  iapply (w_loadX I d) $$ [-]
  isplitl [Hi]; · iexact Hi
  iintro Hi
  iapply (w_loadW I d) $$ [-]
  isplitl [Hi]; · iexact Hi
  iintro Hi
  iapply (w_loadSx I d) $$ [-]
  isplitl [Hi]; · iexact Hi
  iintro Hi
  iapply (w_loadSw I d) $$ [-]
  isplitl [Hi]; · iexact Hi
  iintro Hi
  iapply (w_loadC d fullShare f 0 v) $$ [-]
  isplitl [Hs]; · iexact Hs
  iintro %u - Hs
  iapply (w_storeC d f 0 v (ps I f 0 d)) $$ [-]
  isplitl [Hs]; · iexact Hs
  iintro Hs
  iapply Hk
  isplitl [Hi] <;> iassumption

theorem s_acc {α : Type} {Q : α → sProp 𝕄} (d : Dev nD) (f : Fin 4) (s : Fin 15) (j : PUnit → PP F α) :
    iprop(inp I d ∗ slot fullShare f s.succ d (ps I f s.val (prv f d)) ∗ (inp I d ∗ slot fullShare f s.succ d (ps I f (s.val + 1) d) -∗ WP d (j ⟨⟩) Q))
      ⊢ WP d (run d (.rsAcc f s) >>= j) Q := by
  iintro ⟨Hi, Hs, Hk⟩
  rw [run]
  simp only [Prog.lift, Prog.bind_op, Prog.bind_ret, bind_assoc]
  iapply (w_loadC d fullShare f s.succ (ps I f s.val (prv f d))) $$ [-]
  isplitl [Hs]; · iexact Hs
  iintro %u %hu Hs
  iapply (w_loadX I d) $$ [-]
  isplitl [Hi]; · iexact Hi
  iintro Hi
  iapply (w_loadW I d) $$ [-]
  isplitl [Hi]; · iexact Hi
  iintro Hi
  iapply (w_loadSx I d) $$ [-]
  isplitl [Hi]; · iexact Hi
  iintro Hi
  iapply (w_loadSw I d) $$ [-]
  isplitl [Hi]; · iexact Hi
  iintro Hi
  iapply (w_loadC d fullShare f s.succ (ps I f s.val (prv f d))) $$ [-]
  isplitl [Hs]; · iexact Hs
  iintro %u' - Hs
  have hp : accPay u (xsv I d f s) (wv I d f) (sxv I d) (swv I d)
      = (shapeCast S1x1x256x512 (ps I f (s.val + 1) d) shapeCasts_S256x512_S1x1x256x512 : FVec F S1x1x256x512 .bf16) := by
    rw [ps_acc, ← hu]; rfl
  rw [show xM.view.readAt (Elt F) (rXs d f s).toLoadRect (I.x d) = xsv I d f s from rfl, show wM.view.readAt (Elt F) (rW f).toLoadRect (I.w d) = wv I d f from rfl, hp]
  iapply (w_storeC d f s.succ (ps I f s.val (prv f d)) (ps I f (s.val + 1) d)) $$ [-]
  isplitl [Hs]; · iexact Hs
  iintro Hs
  iapply Hk
  isplitl [Hi] <;> iassumption

theorem s_stage {α : Type} {Q : α → sProp 𝕄} (d : Dev nD) (q : PosShare TreeShare) (f : Fin 4) (k : Fin 16) (v : FVec F S256x512 .bf16) (j : PUnit → PP F α) :
    iprop(slot q f (stSrc k) d v ∗ stagE f (par k) d ∗ (slot q f (stSrc k) d v ∗ stag f (par k) d (wide v) -∗ WP d (j ⟨⟩) Q))
      ⊢ WP d (run d (.stage f k) >>= j) Q := by
  unfold stagE
  iintro ⟨Hs, ⟨%w, Hg⟩, Hk⟩
  rw [run]
  simp only [Prog.lift, Prog.bind_op, Prog.bind_ret, bind_assoc]
  iapply (w_loadC d q f (stSrc k) v) $$ [-]
  isplitl [Hs]; · iexact Hs
  iintro %u %hu Hs
  unfold stag owns
  icases Hg with ⟨%g, %hg, H⟩
  iapply (wp_load_rect 𝒱₀ (d : Thread nD τ) none Set.univ (m := gM) (r := rG f (par k)) (S := (gV f (par k)).view.set) (q := fullShare) (f := g) (access_gV f (par k)).le) $$ [H]
  · iexact H
  iintro H
  have hp : outPay u = (shapeCast S1x1x256x512 (wide v) shapeCasts_S256x512_S1x1x256x512 : FVec F S1x1x256x512 .f32) := by rw [← hu]; rfl
  rw [hp]
  iapply (wp_store 𝒱₀ (d : Thread nD τ) none Set.univ (m := gM) (r := rG f (par k)) (S := (gV f (par k)).view.set) (f := g)
    (Mk := Finset.univ) (access_gV f (par k)).le) $$ [H]
  · iexact H
  iintro H
  iapply Hk
  isplitl [Hs]; · iexact Hs
  iexists _
  isplitr
  · ipureintro; exact write_gV f (par k) g (wide v)
  · iexact H

/-! ## The transfers -/

theorem s_rsSend {α : Type} {Q : α → sProp 𝕄} (d : Dev nD) (f : Fin 4) (s : Fin 15) (R : List (CK × Bool)) (j : PUnit → PP F α) :
    iprop(ctx I K ∗ OW d ((.rsR f s, true) :: R) ∗ slot fullShare f s.castSucc d (ps I f s.val d) ∗ fo f s.val d ∗ slotE f s.succ (tgt f d)
        ∗ dutyTok ER (cell d (.rsS f s)) 0 true ∗ dutyTok ER (cell (tgt f d) (.rsR f s)) 0 true
        ∗ (OW d R ∗ cred (tallyAt (cell d (.rsS f s)) () Nc) -∗ WP d (j ⟨⟩) Q))
      ⊢ WP d (run d (.rsSend f s) >>= j) Q := by
  unfold OW
  iintro ⟨#Hc, ⟨%W, HO⟩, Hs, Hfo, Hd, Ht1, Ht2, Hk⟩
  rw [run, sendC]
  simp only [Prog.lift, Prog.bind_op, Prog.bind_ret]
  ihave H1 := (ctx_cell I K d (.rsS f s)) $$ Hc
  icases H1 with ⟨#Hi1, #Hr1⟩
  ihave H2 := (ctx_cell I K (tgt f d) (.rsR f s)) $$ Hc
  icases H2 with ⟨#Hi2, #Hr2⟩
  unfold slotE slot owns
  icases Hs with ⟨%fs, %hfs, Hs⟩
  icases Hd with ⟨%v, %fd, -, Hd⟩
  iapply (Rounds.wp_send_landing_pointsTo_with 𝒱₀ ER (sched I) (d : Thread nD τ) none (c' := (tgt f d : Thread nD τ)) (κ₁ := K (d, .rsS f s)) (κ₂ := K (tgt f d, .rsR f s))
      (src := cV f s.castSucc) (dst := cV f s.succ) (sS := .dma (rsS f s)) (sem := .dma (rsR f s)) (fs := fs) (fd := fd) (F := fo f s.val d) (q := fullShare)
      (r₁ := 0) (r₂ := 0) (d₁ := true) (d₂ := true)
      ((duties_cell I d (.rsS f s)).symm ▸ Finset.mem_singleton_self _) ((duties_cell I (tgt f d) (.rsR f s)).symm ▸ Finset.mem_singleton_self _)
      () () Nc rfl (amount_cell I d (.rsS f s) true) (amount_cell I (tgt f d) (.rsR f s) true) (O₀ := owed d ((.rsR f s, true) :: R)) (owed d R) (owed_cons d (.rsR f s, true) R) (W := W)
      (Entails.of_eq (payload_cell I d (.rsS f s) true).symm)
      (by
        refine BIBase.Entails.trans ?_ (Entails.of_eq (payload_cell I (tgt f d) (.rsR f s) true).symm)
        show _ ⊢ iprop(slot fullShare f s.succ (tgt f d) (ps I f s.val (prv f (tgt f d))) ∗ fo f (s.val + 1) (tgt f d))
        rw [prv_tgt, fo_succ]
        unfold slotE slot owns
        iintro ⟨⟨H1, Hf⟩, H2⟩
        isplitl [H1]
        · iexists ((cV f s.succ).view.write (Elt F) fd ((cV f s.castSucc).view.read (Elt F) fs) Finset.univ); isplitr
          · ipureintro; exact (View.read_write_univ _ _).trans hfs
          · iexact H1
        isplitl [H2]
        · iexists _; iexists fs; isplitr
          · ipureintro; exact hfs
          · iexact H2
        iexact Hf)) $$ [HO Hs Hd Hfo Ht1 Ht2]
  · isplitr; · iexact Hi1
    isplitr; · iexact Hi2
    isplitl [Hs]; · iexact Hs
    isplitl [Hd Hfo]
    · isplitl [Hd]; · iexact Hd
      iexact Hfo
    isplitl [HO]; · iexact HO
    isplitl [Ht1]; · iexact Ht1
    isplitr; · iexact Hr1
    isplitl [Ht2]; · iexact Ht2
    iexact Hr2
  iintro ⟨Hcr, HO⟩
  iapply Hk
  isplitl [HO]; · iexists W; iexact HO
  iexact Hcr

theorem s_agSend {α : Type} {Q : α → sProp 𝕄} (d : Dev nD) (f : Fin 4) (t : Fin 15) (R : List (CK × Bool)) (j : PUnit → PP F α) :
    iprop(ctx I K ∗ OW d ((.agR f t, true) :: R) ∗ slot fullShare.right f (agSrc t) d (fv I f (agSrc t) d) ∗ rest f t.val d
        ∗ dutyTok ER (cell d (.agS f t)) 0 true ∗ dutyTok ER (cell (tgt f d) (.agR f t)) 0 true
        ∗ (OW d R ∗ cred (tallyAt (cell d (.agS f t)) () Nc) -∗ WP d (j ⟨⟩) Q))
      ⊢ WP d (run d (.agSend f t) >>= j) Q := by
  unfold OW
  rw [rest_eq]
  iintro ⟨#Hc, ⟨%W, HO⟩, Hs, ⟨Hd, Hre⟩, Ht1, Ht2, Hk⟩
  rw [run, sendC]
  simp only [Prog.lift, Prog.bind_op, Prog.bind_ret]
  ihave H1 := (ctx_cell I K d (.agS f t)) $$ Hc
  icases H1 with ⟨#Hi1, #Hr1⟩
  ihave H2 := (ctx_cell I K (tgt f d) (.agR f t)) $$ Hc
  icases H2 with ⟨#Hi2, #Hr2⟩
  unfold slotE slot owns
  icases Hs with ⟨%fs, %hfs, Hs⟩
  icases Hd with ⟨%v, %fd, -, Hd⟩
  iapply (Rounds.wp_send_pointsTo_with 𝒱₀ ER (sched I) (d : Thread nD τ) none (c' := (tgt f d : Thread nD τ)) (κ₁ := K (d, .agS f t)) (κ₂ := K (tgt f d, .agR f t))
      (src := cV f (agSrc t)) (dst := cV f t.castSucc) (sS := .dma (agS f t)) (sem := .dma (agR f t)) (fs := fs) (fd := fd) (F := re f t.val (tgt f d)) (q := fullShare.right)
      (r₁ := 0) (r₂ := 0) (d₁ := true) (d₂ := true)
      ((duties_cell I d (.agS f t)).symm ▸ Finset.mem_singleton_self _) ((duties_cell I (tgt f d) (.agR f t)).symm ▸ Finset.mem_singleton_self _)
      () () Nc rfl (amount_cell I d (.agS f t) true) (amount_cell I (tgt f d) (.agR f t) true) (O₀ := owed d ((.agR f t, true) :: R)) (owed d R) (owed_cons d (.agR f t, true) R) (W := W)
      (by
        refine BIBase.Entails.trans ?_ (Entails.of_eq (payload_cell I d (.agS f t) true).symm)
        show _ ⊢ slot fullShare.right f (agSrc t) d (fv I f (agSrc t) d)
        unfold slot owns
        iintro H
        iexists fs; isplitr
        · ipureintro; exact hfs
        · iexact H)
      (by
        refine BIBase.Entails.trans ?_ (Entails.of_eq (payload_cell I (tgt f d) (.agR f t) true).symm)
        show _ ⊢ iprop(slot fullShare f t.castSucc (tgt f d) (fv I f t.castSucc (tgt f d)) ∗ re f t.val (tgt f d))
        rw [fv_next]
        unfold slot owns
        iintro ⟨H1, Hf⟩
        isplitl [H1]
        · iexists ((cV f t.castSucc).view.write (Elt F) fd ((cV f (agSrc t)).view.read (Elt F) fs) Finset.univ); isplitr
          · ipureintro; exact (View.read_write_univ _ _).trans hfs
          · iexact H1
        iexact Hf)) $$ [HO Hs Hd Hre Ht1 Ht2]
  · isplitr; · iexact Hi1
    isplitr; · iexact Hi2
    isplitl [Hs]; · iexact Hs
    isplitl [Hd Hre]
    · isplitl [Hd]; · iexact Hd
      iexact Hre
    isplitl [HO]; · iexact HO
    isplitl [Ht1]; · iexact Ht1
    isplitr; · iexact Hr1
    isplitl [Ht2]; · iexact Ht2
    iexact Hr2
  iintro ⟨Hcr, HO⟩
  iapply Hk
  isplitl [HO]; · iexists W; iexact HO
  iexact Hcr

theorem s_stStart {α : Type} {Q : α → sProp 𝕄} (d : Dev nD) (f : Fin 4) (k : Fin 16) (j : PUnit → PP F α) :
    iprop(ctx I K ∗ stag f (par k) d (wide (fv I f (stSrc k) d)) ∗ outbE f k d ∗ dutyTok ER (cell d (.st f k)) 0 true
        ∗ (cred (tallyAt (cell d (.st f k)) () Nst) -∗ WP d (j ⟨⟩) Q))
      ⊢ WP d (run d (.stStart f k) >>= j) Q := by
  unfold outbE stag outb owns
  iintro ⟨#Hc, ⟨%fs, %hfs, Hs⟩, ⟨%v, %fd, -, Hd⟩, Ht, Hk⟩
  rw [run]
  simp only [Prog.lift, Prog.bind_op, Prog.bind_ret]
  ihave H1 := (ctx_cell I K d (.st f k)) $$ Hc
  icases H1 with ⟨#Hi1, #Hr1⟩
  iapply (Rounds.wp_copy_pointsTo 𝒱₀ ER (sched I) (d : Thread nD τ) none (κ := K (d, .st f k))
      (src := gV f (par k)) (dst := oV d f k) (sem := .dma (stS f k)) (fs := fs) (fd := fd) (q := fullShare)
      (r := 0) (d := true) ((duties_cell I d (.st f k)).symm ▸ Finset.mem_singleton_self _) () Nst rfl (amount_cell I d (.st f k) true)
      (by
        refine BIBase.Entails.trans ?_ (Entails.of_eq (payload_cell I d (.st f k) true).symm)
        show _ ⊢ iprop(stagE f (par k) d ∗ outb f k d (wide (fv I f (stSrc k) d)))
        unfold stagE stag outb owns
        iintro ⟨H1, H2⟩
        isplitl [H2]
        · iexists _; iexists fs; isplitr
          · ipureintro; exact hfs
          · iexact H2
        iexists ((oV d f k).view.write (Elt F) fd ((gV f (par k)).view.read (Elt F) fs) Finset.univ); isplitr
        · ipureintro; exact (View.read_write_univ _ _).trans hfs
        · iexact H1)) $$ [Hs Hd Ht]
  · isplitr; · iexact Hi1
    isplitl [Hs]; · iexact Hs
    isplitl [Hd]; · iexact Hd
    isplitl [Ht]; · iexact Ht
    iexact Hr1
  iintro Hcr
  iapply Hk
  iexact Hcr

/-! ## The waits -/

omit [FloatOps F] in
theorem single (Φ : Bool → sProp 𝕄) : bigSep ({true} : Finset Bool) Φ = Φ true := bigSep_singleton
omit [FloatOps F] in
theorem both (Φ : Bool → sProp 𝕄) : bigSep ({true, false} : Finset Bool) Φ = iprop(Φ true ∗ Φ false) := by
  rw [bigSep_insert (by decide), bigSep_singleton]; rfl

/-- A wait on a cell with one duty. -/
theorem w_wait1 {α : Type} {Q : α → sProp 𝕄} (d : Dev nD) (k : CK) (h1 : duts k = {true}) {w : TpuEff nD τ sig (Elt F) Λ₀ .tc PUnit}
    (hw : ∀ K : PUnit → sProp 𝕄, wpE (defs₀ (F := F)) 𝒱₀ (d : Thread nD τ) none Set.univ w K = waitSpec (d : Thread nD τ) Set.univ (osem k) (amt k) K)
    (R : List (CK × Bool)) (hR : ∀ o ∈ R, lvl k < lvl o.1) (j : PUnit → PP F α) :
    iprop(ctx I K ∗ OW d R ∗ cred (tallyAt (cell d k) () (amt k)) ∗ atPos ER (cell d k) 0 ∅ 0
        ∗ (OW d R ∗ atPos ER (cell d k) 1 ∅ 0 ∗ pay I k d true -∗ WP d (j ⟨⟩) Q))
      ⊢ WP d (Prog.lift w >>= j) Q := by
  have h := w_wait (Q := Q) I K d k hw R hR j
  rw [h1, single] at h
  exact h

theorem s_rsWait {α : Type} {Q : α → sProp 𝕄} (d : Dev nD) (f : Fin 4) (s : Fin 15) (R : List (CK × Bool)) (hR : ∀ o ∈ R, lvl (.rsR f s) < lvl o.1) (j : PUnit → PP F α) :
    iprop(ctx I K ∗ OW d R ∗ cred (tallyAt (cell d (.rsR f s)) () Nc) ∗ atPos ER (cell d (.rsR f s)) 0 ∅ 0
        ∗ (OW d R ∗ atPos ER (cell d (.rsR f s)) 1 ∅ 0 ∗ slot fullShare f s.succ d (ps I f s.val (prv f d)) ∗ fo f (s.val + 1) d -∗ WP d (j ⟨⟩) Q))
      ⊢ WP d (run d (.rsWait f s) >>= j) Q :=
  w_wait1 I K d (.rsR f s) rfl (w := .waitDma2 (rsR f s) (cV f s.castSucc) (cV f s.succ) (exactC _ _) (exactC _ _))
    (wpE_waitDma2_eq 𝒱₀ (d : Thread nD τ) none Set.univ) R hR j

theorem s_agWait {α : Type} {Q : α → sProp 𝕄} (d : Dev nD) (f : Fin 4) (t : Fin 15) (R : List (CK × Bool)) (hR : ∀ o ∈ R, lvl (.agR f t) < lvl o.1) (j : PUnit → PP F α) :
    iprop(ctx I K ∗ OW d R ∗ cred (tallyAt (cell d (.agR f t)) () Nc) ∗ atPos ER (cell d (.agR f t)) 0 ∅ 0
        ∗ (OW d R ∗ atPos ER (cell d (.agR f t)) 1 ∅ 0 ∗ slot fullShare f t.castSucc d (fv I f t.castSucc d) ∗ re f t.val d -∗ WP d (j ⟨⟩) Q))
      ⊢ WP d (run d (.agWait f t) >>= j) Q :=
  w_wait1 I K d (.agR f t) rfl (w := .waitDma2 (agR f t) (cV f (agSrc t)) (cV f t.castSucc) (exactC _ _) (exactC _ _))
    (wpE_waitDma2_eq 𝒱₀ (d : Thread nD τ) none Set.univ) R hR j

theorem s_stWait {α : Type} {Q : α → sProp 𝕄} (d : Dev nD) (f : Fin 4) (k : Fin 16) (R : List (CK × Bool)) (hR : ∀ o ∈ R, lvl (.st f k) < lvl o.1) (j : PUnit → PP F α) :
    iprop(ctx I K ∗ OW d R ∗ cred (tallyAt (cell d (.st f k)) () Nst) ∗ atPos ER (cell d (.st f k)) 0 ∅ 0
        ∗ (OW d R ∗ atPos ER (cell d (.st f k)) 1 ∅ 0 ∗ stagE f (par k) d ∗ outb f k d (wide (fv I f (stSrc k) d)) -∗ WP d (j ⟨⟩) Q))
      ⊢ WP d (run d (.stWait f k) >>= j) Q :=
  w_wait1 I K d (.st f k) rfl (w := .waitDma2 (stS f k) (gV f (par k)) (oV d f k) ((View.wordExact_bits rfl).reshape _ _) (View.wordExact_bits rfl))
    (wpE_waitDma2_eq 𝒱₀ (d : Thread nD τ) none Set.univ) R hR j

theorem s_rsDrain {α : Type} {Q : α → sProp 𝕄} (d : Dev nD) (f : Fin 4) (s : Fin 15) (R : List (CK × Bool)) (hR : ∀ o ∈ R, lvl (.rsS f s) < lvl o.1) (j : PUnit → PP F α) :
    iprop(ctx I K ∗ OW d R ∗ cred (tallyAt (cell d (.rsS f s)) () Nc) ∗ atPos ER (cell d (.rsS f s)) 0 ∅ 0
        ∗ (OW d R ∗ atPos ER (cell d (.rsS f s)) 1 ∅ 0 ∗ emp -∗ WP d (j ⟨⟩) Q))
      ⊢ WP d (run d (.rsDrain f s) >>= j) Q :=
  w_wait1 I K d (.rsS f s) rfl (w := .waitDma2 (rsS f s) (cV f s.succ) (cV f s.castSucc) (exactC _ _) (exactC _ _))
    (wpE_waitDma2_eq 𝒱₀ (d : Thread nD τ) none Set.univ) R hR j

theorem s_agDrain {α : Type} {Q : α → sProp 𝕄} (d : Dev nD) (f : Fin 4) (t : Fin 15) (R : List (CK × Bool)) (hR : ∀ o ∈ R, lvl (.agS f t) < lvl o.1) (j : PUnit → PP F α) :
    iprop(ctx I K ∗ OW d R ∗ cred (tallyAt (cell d (.agS f t)) () Nc) ∗ atPos ER (cell d (.agS f t)) 0 ∅ 0
        ∗ (OW d R ∗ atPos ER (cell d (.agS f t)) 1 ∅ 0 ∗ slot fullShare.right f (agSrc t) d (fv I f (agSrc t) d) -∗ WP d (j ⟨⟩) Q))
      ⊢ WP d (run d (.agDrain f t) >>= j) Q :=
  w_wait1 I K d (.agS f t) rfl (w := .waitDma2 (agS f t) (cV f t.castSucc) (cV f (agSrc t)) (exactC _ _) (exactC _ _))
    (wpE_waitDma2_eq 𝒱₀ (d : Thread nD τ) none Set.univ) R hR j

/-! ## The two meetings -/

/-- Both neighbours signalled, then a wait for both. -/
theorem s_meet {α : Type} {Q : α → sProp 𝕄} (d : Dev nD) (k : CK) (s : Sem sig) (hs : osem k = .reg s) (hd : duts k = {true, false}) (h1 : amt1 k = 1) (h2 : amt k = 2)
    (hl : pd k false d = Lf d) (hr : pd k true d = Rt d)
    (R : List (CK × Bool)) (hR : ∀ o ∈ R, lvl k < lvl o.1) (j : PUnit → PP F α) :
    iprop(ctx I K ∗ OW d ((k, false) :: (k, true) :: R) ∗ dutyTok ER (cell (pd k false d) k) 0 false ∗ dutyTok ER (cell (pd k true d) k) 0 true
        ∗ pay I k (pd k false d) false ∗ pay I k (pd k true d) true ∗ cred (tallyAt (cell d k) () (amt k)) ∗ atPos ER (cell d k) 0 ∅ 0
        ∗ (OW d R ∗ atPos ER (cell d k) 1 ∅ 0 ∗ pay I k d true ∗ pay I k d false -∗ WP d (j ⟨⟩) Q))
      ⊢ WP d ((semSignalWord (⟨k0_dev1 d, k0_dev1_lt d⟩ : Dev nD) s 1#32 >>= fun _ => semSignalWord (⟨k0_dev2 d, k0_dev2_lt d⟩ : Dev nD) s 1#32 >>= fun _ => semWaitWord s 2#32) >>= j) Q := by
  simp only [semSignalWord, semWaitWord, Prog.lift, Prog.bind_op, Prog.bind_ret]
  iintro ⟨#Hc, HO, Ht1, Ht2, Hp1, Hp2, Hcr, Hpos, Hk⟩
  iapply (w_sig I K d (Lf d) k false s hs (by rw [hd]; decide) h1 hl.symm ((k, true) :: R)) $$ [-]
  isplitr; · iexact Hc
  isplitl [HO]; · iexact HO
  isplitl [Ht1]; · iexact Ht1
  isplitl [Hp1]; · iexact Hp1
  iintro HO
  iapply (w_sig I K d (Rt d) k true s hs (by rw [hd]; decide) h1 hr.symm R) $$ [-]
  isplitr; · iexact Hc
  isplitl [HO]; · iexact HO
  isplitl [Ht2]; · iexact Ht2
  isplitl [Hp2]; · iexact Hp2
  iintro HO
  iapply (w_wait I K d k (by rw [hs, h2]; exact wpE_semWait_eq 𝒱₀ (d : Thread nD τ) none Set.univ) R hR) $$ [-]
  isplitr; · iexact Hc
  isplitl [HO]; · iexact HO
  isplitl [Hcr]; · iexact Hcr
  isplitl [Hpos]; · iexact Hpos
  rw [hd, both]
  iexact Hk

end Moves

end Cert.KernelIdeal.Ring
-- ==== Proof.Run.lean ====
/-
  The resources of one device as names (atoms), what each step takes and gives, and the body's triple: that the steps
  fit together is a computation on lists of names.
-/
module

public import proofs.«01_k».proof.Proof.Moves
@[expose] public section

set_option maxRecDepth 20000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × CK → ℕ)

/-! ## Names of resources -/

/-- A device's resources: its staged operands; a slot as found (`own`), with this device's partial sum (`prt`), with the
    previous device's (`got`), with the finished chunk, half a share each (`fa`, `fb`); a slot of the next device (`dst`);
    the slots a chunk left behind (`fo`) or has before it (`re`); a staging block as found or filled; a block of the result
    as found or written; a duty to pay, the place before and after a cell's round, a credit. -/
inductive At where
  | inp | own (f : Fin 4) (s : Fin 16) | prt (f : Fin 4) (s : Fin 16) | got (f : Fin 4) (s : Fin 15) | fa (f : Fin 4) (i : Fin 16) | fb (f : Fin 4) (i : Fin 16)
  | dst (f : Fin 4) (s : Fin 15) | fo (f : Fin 4) (n : ℕ) | re (f : Fin 4) (n : ℕ) | stg (f : Fin 4) (b : Fin 2) | stgF (f : Fin 4) (k : Fin 16)
  | out (f : Fin 4) (k : Fin 16) | outF (f : Fin 4) (k : Fin 16) | tok (k : CK) (b : Bool) | pos (k : CK) | done (k : CK) | crd (k : CK)
  deriving DecidableEq

/-- What a name stands for on device `d`. -/
def at' (d : Dev nD) : At → sProp 𝕄
  | .inp => inp I d
  | .own f s => slotE f s d
  | .prt f s => slot fullShare f s d (ps I f s.val d)
  | .got f s => slot fullShare f s.succ d (ps I f s.val (prv f d))
  | .fa f i => slot fullShare.left f i d (fv I f i d)
  | .fb f i => slot fullShare.right f i d (fv I f i d)
  | .dst f s => slotE f s.succ (tgt f d)
  | .fo f n => Ring.fo f n d
  | .re f n => Ring.re f n d
  | .stg f b => stagE f b d
  | .stgF f k => stag f (par k) d (wide (fv I f (stSrc k) d))
  | .out f k => outbE f k d
  | .outF f k => outb f k d (wide (fv I f (stSrc k) d))
  | .tok k b => dutyTok ER (cell (pd k b d) k) 0 b
  | .pos k => atPos ER (cell d k) 0 ∅ 0
  | .done k => atPos ER (cell d k) 1 ∅ 0
  | .crd k => cred (tallyAt (cell d k) () (amt k))

/-- A flow's slots but the first. -/
def legs (l : List (Fin 4)) : List (Fin 4 × Fin 15) := l.flatMap fun f => ring.map fun s => (f, s)

/-- What a step takes of what earlier steps gave. -/
def need : Stp → List At
  | .bar => []
  | .init _ => [.inp]
  | .rsSend f s => [.prt f s.castSucc, .fo f s.val, .dst f s]
  | .rsWait _ _ => []
  | .rsAcc f s => [.inp, .got f s]
  | .agSend f t => [.fb f (agSrc t), if t.val = 0 then .fo f 15 else .re f (t.val - 1)]
  | .agWait _ _ => []
  | .stage f k => if k.val < 2 then [.fa f (stSrc k)] else [.fa f (stSrc k), .stg f (par k)]
  | .stStart f k => [.stgF f k]
  | .stWait f k => [.crd (.st f k)]
  | .rsDrain f s => [.crd (.rsS f s)]
  | .agDrain f t => [.crd (.agS f t)]
  | .exit => []

/-- What a step takes of what the device began with. -/
def fresh : Stp → List At
  | .bar => [.tok .bar false, .tok .bar true, .crd .bar, .pos .bar] ++ ((legs (fl true)).map (fun p => .own p.1 p.2.succ) ++ (legs (fl false)).map (fun p => .own p.1 p.2.succ))
  | .init f => [.own f 0]
  | .rsSend f s => [.tok (.rsS f s) true, .tok (.rsR f s) true]
  | .rsWait f s => [.crd (.rsR f s), .pos (.rsR f s)]
  | .rsAcc _ _ => []
  | .agSend f t => [.tok (.agS f t) true, .tok (.agR f t) true]
  | .agWait f t => [.crd (.agR f t), .pos (.agR f t)]
  | .stage f k => if k.val < 2 then [.stg f (par k)] else []
  | .stStart f k => [.out f k, .tok (.st f k) true]
  | .stWait f k => [.pos (.st f k)]
  | .rsDrain f s => [.pos (.rsS f s)]
  | .agDrain f t => [.pos (.agS f t)]
  | .exit => [.tok .exit false, .tok .exit true, .crd .exit, .pos .exit]

/-- What a step gives to later steps. -/
def post : Stp → List At
  | .bar => (legs (fl true)).map (fun p => .dst p.1 p.2) ++ (legs (fl false)).map (fun p => .dst p.1 p.2)
  | .init f => [.inp, .prt f 0, .fo f 0]
  | .rsSend f s => [.crd (.rsS f s)]
  | .rsWait f s => [.got f s, .fo f (s.val + 1)]
  | .rsAcc f s => if s.val = 14 then [.inp, .fa f 15, .fb f 15] else [.inp, .prt f s.succ]
  | .agSend f t => [.crd (.agS f t)]
  | .agWait f t => [.fa f t.castSucc, .fb f t.castSucc, .re f t.val]
  | .stage f k => [.stgF f k]
  | .stStart f k => [.crd (.st f k)]
  | .stWait f k => [.stg f (par k)]
  | .rsDrain _ _ => []
  | .agDrain _ _ => []
  | .exit => []

/-- What a step leaves for the end. -/
def fin : Stp → List At
  | .bar => [.done .bar]
  | .init _ => []
  | .rsSend _ _ => []
  | .rsWait f s => [.done (.rsR f s)]
  | .rsAcc _ _ => []
  | .agSend _ _ => []
  | .agWait f t => [.done (.agR f t)]
  | .stage f k => [.fa f (stSrc k)]
  | .stStart _ _ => []
  | .stWait f k => [.done (.st f k), .outF f k]
  | .rsDrain f s => [.done (.rsS f s)]
  | .agDrain f t => [.done (.agS f t), .fb f (agSrc t)]
  | .exit => [.done .exit]

/-- The duties of other devices' cells a step pays. -/
def obs : Stp → List (CK × Bool)
  | .bar => [(.bar, false), (.bar, true)]
  | .rsSend f s => [(.rsR f s, true)]
  | .agSend f t => [(.agR f t, true)]
  | .exit => [(.exit, false), (.exit, true)]
  | _ => []

/-- The cell a step waits on. -/
def waits : Stp → Option CK
  | .bar => some .bar
  | .rsWait f s => some (.rsR f s)
  | .agWait f t => some (.agR f t)
  | .stWait f k => some (.st f k)
  | .rsDrain f s => some (.rsS f s)
  | .agDrain f t => some (.agS f t)
  | .exit => some .exit
  | _ => none

/-! ## One step -/

section Steps

theorem half (f : Fin 4) (i : Fin 16) (d : Dev nD) (v : FVec F S256x512 .bf16) :
    slot fullShare f i d v ⊢ iprop(slot fullShare.left f i d v ∗ slot fullShare.right f i d v) := by
  unfold slot owns
  iintro ⟨%g, %hg, H⟩
  ihave H2 := (pointsTo_share (PosShare.mem_left_op_right fullShare)).1 $$ H
  icases H2 with ⟨H1, H2⟩
  isplitl [H1]
  · iexists g; isplitr; · ipureintro; exact hg
    iexact H1
  · iexists g; isplitr; · ipureintro; exact hg
    iexact H2

omit [FloatOps F] in
theorem bigL_congr {α : Type} {l : List α} {Φ Ψ : α → sProp 𝕄} (h : ∀ a ∈ l, Φ a = Ψ a) : bigL l Φ = bigL l Ψ := by
  induction l with
  | nil => rfl
  | cons a l ih => rw [bigL_cons, bigL_cons, h a List.mem_cons_self, ih fun b hb => h b (List.mem_cons_of_mem _ hb)]

omit [FloatOps F] in
theorem tgt_pd (b : Bool) (d : Dev nD) (f : Fin 4) (hf : f ∈ fl b) : tgt f (pd .bar b d) = d := by
  revert b d f; decide +kernel

/-- The slots a signal of the barrier hands over are the signalling device's own. -/
theorem legs_own (b : Bool) (d : Dev nD) : bigL ((legs (fl b)).map (fun p => At.own p.1 p.2.succ)) (at' I d) = pay I .bar (pd .bar b d) b := by
  rw [bigL_map]
  show _ = bigL (legs (fl b)) fun p => slotE p.1 p.2.succ (tgt p.1 (pd .bar b d))
  refine bigL_congr fun p hp => ?_
  obtain ⟨f, hf, hp⟩ := List.mem_flatMap.mp hp
  obtain ⟨s, -, rfl⟩ := List.mem_map.mp hp
  rw [tgt_pd b d f hf]; rfl

theorem last_eq (f : Fin 4) (d : Dev nD) : slot fullShare f (Fin.succ 14) d (ps I f ((14 : Fin 15).val + 1) d) = slot fullShare f 15 d (fv I f 15 d) := rfl

set_option maxHeartbeats 8000000 in
theorem step_ok {α : Type} {Q : α → sProp 𝕄} (d : Dev nD) (p : Stp) (R : List (CK × Bool)) (hR : ∀ k ∈ waits p, ∀ o ∈ R, lvl k < lvl o.1) (j : PUnit → PP F α) :
    iprop(ctx I K ∗ OW d (obs p ++ R) ∗ bigL (need p) (at' I d) ∗ bigL (fresh p) (at' I d)
        ∗ (OW d R ∗ bigL (post p) (at' I d) ∗ bigL (fin p) (at' I d) -∗ WP d (j ⟨⟩) Q))
      ⊢ WP d (run d p >>= j) Q := by
  rcases p with _ | f | ⟨f, s⟩ | ⟨f, s⟩ | ⟨f, s⟩ | ⟨f, t⟩ | ⟨f, t⟩ | ⟨f, k⟩ | ⟨f, k⟩ | ⟨f, k⟩ | ⟨f, s⟩ | ⟨f, t⟩ | _
  · -- the barrier
    simp only [need, fresh, post, fin, bigL_append, bigL_cons, bigL_nil, at', obs, List.cons_append, List.nil_append]
    have e1 : bigL ((legs (fl true)).map (fun p => At.own p.1 p.2.succ)) (at' I d) = pay I .bar (pd .bar true d) true := legs_own I true d
    have e2 : bigL ((legs (fl false)).map (fun p => At.own p.1 p.2.succ)) (at' I d) = pay I .bar (pd .bar false d) false := legs_own I false d
    have e3 : bigL ((legs (fl true)).map (fun p => At.dst p.1 p.2)) (at' I d) = pay I .bar d true := by rw [bigL_map]; rfl
    have e4 : bigL ((legs (fl false)).map (fun p => At.dst p.1 p.2)) (at' I d) = pay I .bar d false := by rw [bigL_map]; rfl
    rw [e1, e2, e3, e4]
    iintro ⟨#Hc, HO, -, ⟨Ht1, Ht2, Hcr, Hpos, Ho1, Ho2⟩, Hk⟩
    iapply (s_meet I K d .bar barS rfl rfl rfl rfl rfl rfl R (hR .bar rfl) j) $$ [-]
    isplitr; · iexact Hc
    isplitl [HO]; · iexact HO
    isplitl [Ht1]; · iexact Ht1
    isplitl [Ht2]; · iexact Ht2
    isplitl [Ho2]; · iexact Ho2
    isplitl [Ho1]; · iexact Ho1
    isplitl [Hcr]; · iexact Hcr
    isplitl [Hpos]; · iexact Hpos
    iintro ⟨HO, Hpos, Hp1, Hp2⟩
    iapply Hk
    isplitl [HO]; · iexact HO
    isplitr [Hpos]
    · isplitl [Hp1]; · iexact Hp1
      iexact Hp2
    · isplitl [Hpos]; · iexact Hpos
      iempintro
  · -- init
    simp only [need, fresh, post, fin, bigL_cons, bigL_nil, at', obs, List.nil_append]
    iintro ⟨-, HO, ⟨Hi, -⟩, ⟨Hs, -⟩, Hk⟩
    iapply (s_init I d f j) $$ [-]
    isplitl [Hi]; · iexact Hi
    isplitl [Hs]; · iexact Hs
    iintro ⟨Hi, Hs⟩
    iapply Hk
    isplitl [HO]; · iexact HO
    isplitl
    · isplitl [Hi]; · iexact Hi
      isplitl [Hs]; · iexact Hs
      isplitl
      · rw [fo_zero]; iempintro
      · iempintro
    · iempintro
  · -- rsSend
    simp only [need, fresh, post, fin, bigL_cons, bigL_nil, at', obs, List.cons_append, List.nil_append]
    iintro ⟨#Hc, HO, ⟨Hs, Hf, Hd, -⟩, ⟨Ht1, Ht2, -⟩, Hk⟩
    iapply (s_rsSend I K d f s R j) $$ [-]
    isplitr; · iexact Hc
    isplitl [HO]; · iexact HO
    isplitl [Hs]; · iexact Hs
    isplitl [Hf]; · iexact Hf
    isplitl [Hd]; · iexact Hd
    isplitl [Ht1]; · iexact Ht1
    isplitl [Ht2]; · iexact Ht2
    iintro ⟨HO, Hcr⟩
    iapply Hk
    isplitl [HO]; · iexact HO
    isplitl
    · isplitl [Hcr]; · iexact Hcr
      iempintro
    · iempintro
  · -- rsWait
    simp only [need, fresh, post, fin, bigL_cons, bigL_nil, at', obs, List.nil_append]
    iintro ⟨#Hc, HO, -, ⟨Hcr, Hp, -⟩, Hk⟩
    iapply (s_rsWait I K d f s R (hR _ rfl) j) $$ [-]
    isplitr; · iexact Hc
    isplitl [HO]; · iexact HO
    isplitl [Hcr]; · iexact Hcr
    isplitl [Hp]; · iexact Hp
    iintro ⟨HO, Hp, Hs, Hf⟩
    iapply Hk
    isplitl [HO]; · iexact HO
    isplitr [Hp]
    · isplitl [Hs]; · iexact Hs
      isplitl [Hf]; · iexact Hf
      iempintro
    · isplitl [Hp]; · iexact Hp
      iempintro
  · -- rsAcc
    simp only [need, fresh, fin, bigL_cons, bigL_nil, at', obs, List.nil_append]
    iintro ⟨-, HO, ⟨Hi, Hs, -⟩, -, Hk⟩
    iapply (s_acc I d f s j) $$ [-]
    isplitl [Hi]; · iexact Hi
    isplitl [Hs]; · iexact Hs
    iintro ⟨Hi, Hs⟩
    iapply Hk
    isplitl [HO]; · iexact HO
    isplitl
    · by_cases h : s.val = 14
      · obtain rfl : s = 14 := Fin.ext h
        rw [post, if_pos h]; simp only [bigL_cons, bigL_nil, at']
        isplitl [Hi]; · iexact Hi
        ihave Hs' := (Entails.of_eq (last_eq I f d)) $$ Hs
        ihave H2 := (half f 15 d (fv I f 15 d)) $$ Hs'
        icases H2 with ⟨H1, H2⟩
        isplitl [H1]; · iexact H1
        isplitl [H2]; · iexact H2
        iempintro
      · rw [post, if_neg h]; simp only [bigL_cons, bigL_nil, at']
        isplitl [Hi]; · iexact Hi
        isplitl [Hs]; · iexact Hs
        iempintro
    · iempintro
  · -- agSend
    have e : at' I d (if t.val = 0 then At.fo f 15 else At.re f (t.val - 1)) = rest f t.val d := by
      unfold rest; split <;> rfl
    simp only [need, fresh, post, fin, bigL_cons, bigL_nil, e, obs, List.cons_append, List.nil_append]
    simp only [at']
    iintro ⟨#Hc, HO, ⟨Hs, Hr, -⟩, ⟨Ht1, Ht2, -⟩, Hk⟩
    iapply (s_agSend I K d f t R j) $$ [-]
    isplitr; · iexact Hc
    isplitl [HO]; · iexact HO
    isplitl [Hs]; · iexact Hs
    isplitl [Hr]; · iexact Hr
    isplitl [Ht1]; · iexact Ht1
    isplitl [Ht2]; · iexact Ht2
    iintro ⟨HO, Hcr⟩
    iapply Hk
    isplitl [HO]; · iexact HO
    isplitl
    · isplitl [Hcr]; · iexact Hcr
      iempintro
    · iempintro
  · -- agWait
    simp only [need, fresh, post, fin, bigL_cons, bigL_nil, at', obs, List.nil_append]
    iintro ⟨#Hc, HO, -, ⟨Hcr, Hp, -⟩, Hk⟩
    iapply (s_agWait I K d f t R (hR _ rfl) j) $$ [-]
    isplitr; · iexact Hc
    isplitl [HO]; · iexact HO
    isplitl [Hcr]; · iexact Hcr
    isplitl [Hp]; · iexact Hp
    iintro ⟨HO, Hp, Hs, Hf⟩
    ihave H2 := (half f t.castSucc d (fv I f t.castSucc d)) $$ Hs
    icases H2 with ⟨H1, H2⟩
    iapply Hk
    isplitl [HO]; · iexact HO
    isplitr [Hp]
    · isplitl [H1]; · iexact H1
      isplitl [H2]; · iexact H2
      isplitl [Hf]; · iexact Hf
      iempintro
    · isplitl [Hp]; · iexact Hp
      iempintro
  · -- stage
    have e : iprop(bigL (need (.stage f k)) (at' I d) ∗ bigL (fresh (.stage f k)) (at' I d)) ⊢ iprop(slot fullShare.left f (stSrc k) d (fv I f (stSrc k) d) ∗ stagE f (par k) d) := by
      dsimp only [need, fresh]
      split <;> simp only [bigL_cons, bigL_nil, at']
      · iintro ⟨⟨H1, -⟩, ⟨H2, -⟩⟩
        isplitl [H1]; · iexact H1
        iexact H2
      · iintro ⟨⟨H1, H2, -⟩, -⟩
        isplitl [H1]; · iexact H1
        iexact H2
    simp only [post, fin, bigL_cons, bigL_nil, at', obs, List.nil_append]
    iintro ⟨-, HO, Hn, Hf, Hk⟩
    icombine Hn Hf as Hn
    ihave H := e $$ Hn
    icases H with ⟨H1, H2⟩
    iapply (s_stage d fullShare.left f k (fv I f (stSrc k) d) j) $$ [-]
    isplitl [H1]; · iexact H1
    isplitl [H2]; · iexact H2
    iintro ⟨H1, H2⟩
    iapply Hk
    isplitl [HO]; · iexact HO
    isplitl [H2]
    · isplitl [H2]; · iexact H2
      iempintro
    · isplitl [H1]; · iexact H1
      iempintro
  · -- stStart
    simp only [need, fresh, post, fin, bigL_cons, bigL_nil, at', obs, List.nil_append]
    iintro ⟨#Hc, HO, ⟨Hs, -⟩, ⟨Ho, Ht, -⟩, Hk⟩
    iapply (s_stStart I K d f k j) $$ [-]
    isplitr; · iexact Hc
    isplitl [Hs]; · iexact Hs
    isplitl [Ho]; · iexact Ho
    isplitl [Ht]; · iexact Ht
    iintro Hcr
    iapply Hk
    isplitl [HO]; · iexact HO
    isplitl
    · isplitl [Hcr]; · iexact Hcr
      iempintro
    · iempintro
  · -- stWait
    simp only [need, fresh, post, fin, bigL_cons, bigL_nil, at', obs, List.nil_append]
    iintro ⟨#Hc, HO, ⟨Hcr, -⟩, ⟨Hp, -⟩, Hk⟩
    iapply (s_stWait I K d f k R (hR _ rfl) j) $$ [-]
    isplitr; · iexact Hc
    isplitl [HO]; · iexact HO
    isplitl [Hcr]; · iexact Hcr
    isplitl [Hp]; · iexact Hp
    iintro ⟨HO, Hp, Hs, Ho⟩
    iapply Hk
    isplitl [HO]; · iexact HO
    isplitl [Hs]
    · isplitl [Hs]; · iexact Hs
      iempintro
    · isplitl [Hp]; · iexact Hp
      isplitl [Ho]; · iexact Ho
      iempintro
  · -- rsDrain
    simp only [need, fresh, post, fin, bigL_cons, bigL_nil, at', obs, List.nil_append]
    iintro ⟨#Hc, HO, ⟨Hcr, -⟩, ⟨Hp, -⟩, Hk⟩
    iapply (s_rsDrain I K d f s R (hR _ rfl) j) $$ [-]
    isplitr; · iexact Hc
    isplitl [HO]; · iexact HO
    isplitl [Hcr]; · iexact Hcr
    isplitl [Hp]; · iexact Hp
    iintro ⟨HO, Hp, -⟩
    iapply Hk
    isplitl [HO]; · iexact HO
    isplitr [Hp]
    · iempintro
    · isplitl [Hp]; · iexact Hp
      iempintro
  · -- agDrain
    simp only [need, fresh, post, fin, bigL_cons, bigL_nil, at', obs, List.nil_append]
    iintro ⟨#Hc, HO, ⟨Hcr, -⟩, ⟨Hp, -⟩, Hk⟩
    iapply (s_agDrain I K d f t R (hR _ rfl) j) $$ [-]
    isplitr; · iexact Hc
    isplitl [HO]; · iexact HO
    isplitl [Hcr]; · iexact Hcr
    isplitl [Hp]; · iexact Hp
    iintro ⟨HO, Hp, Hs⟩
    iapply Hk
    isplitl [HO]; · iexact HO
    isplitr [Hp Hs]
    · iempintro
    · isplitl [Hp]; · iexact Hp
      isplitl [Hs]; · iexact Hs
      iempintro
  · -- exit
    simp only [need, fresh, post, fin, bigL_cons, bigL_nil, at', obs, List.cons_append, List.nil_append]
    iintro ⟨#Hc, HO, -, ⟨Ht1, Ht2, Hcr, Hpos, -⟩, Hk⟩
    iapply (s_meet I K d .exit exS rfl rfl rfl rfl rfl rfl R (hR .exit rfl) j) $$ [-]
    isplitr; · iexact Hc
    isplitl [HO]; · iexact HO
    isplitl [Ht1]; · iexact Ht1
    isplitl [Ht2]; · iexact Ht2
    isplitr; · dsimp only [pay]; iempintro
    isplitr; · dsimp only [pay]; iempintro
    isplitl [Hcr]; · iexact Hcr
    isplitl [Hpos]; · iexact Hpos
    iintro ⟨HO, Hpos, -, -⟩
    iapply Hk
    isplitl [HO]; · iexact HO
    isplitr [Hpos]
    · iempintro
    · isplitl [Hpos]; · iexact Hpos
      iempintro

/-! ## A list of steps -/

/-- A list without one of its names. -/
def pick (a : At) : List At → Option (List At)
  | [] => none
  | b :: l => if a = b then some l else (pick a l).map (b :: ·)
def picks : List At → List At → Option (List At)
  | [], S => some S
  | a :: l, S => (pick a S).bind (picks l)

theorem pick_perm {a : At} {S S' : List At} (h : pick a S = some S') : S.Perm (a :: S') := by
  induction S generalizing S' with
  | nil => exact absurd h (by simp [pick])
  | cons b l ih =>
    rw [pick] at h
    split at h
    · rename_i hab; subst hab; rw [← Option.some.inj h]
    · obtain ⟨l', hl, rfl⟩ := Option.map_eq_some_iff.mp h
      exact ((ih hl).cons b).trans (List.Perm.swap a b l')
theorem picks_perm {l S S' : List At} (h : picks l S = some S') : S.Perm (l ++ S') := by
  induction l generalizing S with
  | nil => rw [← Option.some.inj h]; exact .rfl
  | cons a l ih =>
    obtain ⟨S₁, h1, h2⟩ := Option.bind_eq_some_iff.mp h
    exact (pick_perm h1).trans ((ih h2).cons a)

/-- The names left after a list of steps. -/
def after : List Stp → List At → Option (List At)
  | [], S => some S
  | p :: l, S => (picks (need p) S).bind fun S' => after l (post p ++ S')

/-- Every wait is on a cell of a lower level than all that is still to be paid. -/
def inOrder : List Stp → Bool
  | [] => true
  | p :: l => (match waits p with | some k => (l.flatMap obs).all fun o => decide (lvl k < lvl o.1) | none => true) && inOrder l

theorem runs_ok {Q : PUnit → sProp 𝕄} (d : Dev nD) (l : List Stp) (S S' : List At) (h : after l S = some S') (hw : inOrder l = true) :
    iprop(ctx I K ∗ OW d (l.flatMap obs) ∗ bigL S (at' I d) ∗ bigL (l.flatMap fresh) (at' I d)
        ∗ (OW d [] ∗ bigL S' (at' I d) ∗ bigL (l.flatMap fin) (at' I d) -∗ Q ⟨⟩))
      ⊢ WP d (runs d l) Q := by
  induction l generalizing S Q with
  | nil =>
    rw [after] at h
    obtain rfl := Option.some.inj h
    simp only [List.flatMap_nil, runs, Prog.pure_eq_ret, WP, wp_ret]
    iintro ⟨-, HO, HS, -, Hk⟩
    imodintro
    iapply Hk
    isplitl [HO]; · iexact HO
    isplitl [HS]; · iexact HS
    rw [bigL_nil]; iempintro
  | cons p l ih =>
    obtain ⟨S₁, h1, h2⟩ := Option.bind_eq_some_iff.mp h
    rw [inOrder, Bool.and_eq_true] at hw
    have hR : ∀ k ∈ waits p, ∀ o ∈ l.flatMap obs, lvl k < lvl o.1 := by
      intro k hk o ho
      have := hw.1
      rw [Option.mem_def.mp hk] at this
      exact of_decide_eq_true (List.all_eq_true.mp this o ho)
    have e1 := bigL_perm (picks_perm h1) (at' I d)
    rw [bigL_append] at e1
    rw [e1, List.flatMap_cons, List.flatMap_cons, List.flatMap_cons, bigL_append, bigL_append, runs]
    iintro ⟨#Hc, HO, ⟨Hn, HS⟩, ⟨Hf, Hl⟩, Hk⟩
    iapply (step_ok I K d p (l.flatMap obs) hR (fun _ => runs d l)) $$ [-]
    isplitr; · iexact Hc
    isplitl [HO]; · iexact HO
    isplitl [Hn]; · iexact Hn
    isplitl [Hf]; · iexact Hf
    iintro ⟨HO, Hp, Hfin⟩
    iapply (ih (post p ++ S₁) h2 hw.2) $$ [-]
    isplitr; · iexact Hc
    isplitl [HO]; · iexact HO
    isplitl [Hp HS]
    · rw [bigL_append]
      isplitl [Hp] <;> iassumption
    isplitl [Hl]; · iexact Hl
    iintro ⟨HO, HS, HF⟩
    iapply Hk
    isplitl [HO]; · iexact HO
    isplitl [HS]; · iexact HS
    isplitl [Hfin] <;> iassumption

end Steps

end Cert.KernelIdeal.Ring
-- ==== Proof.Check.lean ====
/-
  The steps fit together: what the device begins with is what they take, what is left at the end is what is listed here.
-/
module

public import proofs.«01_k».proof.Proof.Run

@[expose] public section

set_option maxRecDepth 100000

namespace Cert.KernelIdeal.Ring

/-- A flow with one of its two staging blocks. -/
def pairs2 : List (Fin 4 × Fin 2) := flows.flatMap fun f => [0, 1].map fun b => (f, b)

/-- All the steps. -/
def allSteps : List Stp := steps ++ [.exit]

/-- The duties, each a cell and which of its two. -/
def allDuts : List (CK × Bool) := (.bar, false) :: (.exit, false) :: allCK.map fun k => (k, true)

/-- The duties paid by other devices. -/
def away : List CK := pairs15.map (fun p => CK.rsR p.1 p.2) ++ pairs15.map fun p => CK.agR p.1 p.2
/-- What a device's cells are owed from the start. -/
def awayDuts : List (CK × Bool) := (.bar, false) :: (.bar, true) :: (.exit, false) :: (.exit, true) :: away.map fun k => (k, true)

/-- What a device begins with, but its operands. -/
def first : List At :=
  pairs16.map (fun p => .own p.1 p.2) ++ (pairs2.map (fun p => .stg p.1 p.2) ++ (pairs16.map (fun p => .out p.1 p.2)
    ++ (allDuts.map (fun o => .tok o.1 o.2) ++ (allCK.map .pos ++ (CK.bar :: CK.exit :: away).map .crd))))

/-- What a device ends with. -/
def last : List At :=
  [.inp] ++ (pairs16.map (fun p => .fa p.1 p.2) ++ (pairs16.map (fun p => .fb p.1 p.2) ++ (pairs2.map (fun p => .stg p.1 p.2)
    ++ (pairs16.map (fun p => .outF p.1 p.2) ++ (allCK.map .done ++ flows.map (fun f => .re f 14))))))

/-- A name as three numbers. -/
def key : At → ℕ × ℕ × ℕ
  | .inp => (0, 0, 0)
  | .own f s => (1, f.val, s.val)
  | .prt f s => (2, f.val, s.val)
  | .got f s => (3, f.val, s.val)
  | .fa f i => (4, f.val, i.val)
  | .fb f i => (5, f.val, i.val)
  | .dst f s => (6, f.val, s.val)
  | .fo f n => (7, f.val, n)
  | .re f n => (8, f.val, n)
  | .stg f b => (9, f.val, b.val)
  | .stgF f k => (10, f.val, k.val)
  | .out f k => (11, f.val, k.val)
  | .outF f k => (12, f.val, k.val)
  | .tok k b => (13, ckNo k, b.toNat)
  | .pos k => (14, ckNo k, 0)
  | .done k => (15, ckNo k, 0)
  | .crd k => (16, ckNo k, 0)

theorem toNat_inj {a b : Bool} (h : a.toNat = b.toNat) : a = b := by revert a b; decide

theorem key_inj : Function.Injective key := by
  intro a b h
  cases a <;> cases b <;> first
    | rfl
    | (exfalso; have h0 := congrArg Prod.fst h; simp [key] at h0; done)
    | (have h1 := congrArg (fun p : ℕ × ℕ × ℕ => p.2.1) h
       have h2 := congrArg (fun p : ℕ × ℕ × ℕ => p.2.2) h
       dsimp only [key] at h1 h2
       first
         | (obtain rfl := Fin.ext h1; obtain rfl := Fin.ext h2; rfl)
         | (obtain rfl := Fin.ext h1; subst h2; rfl)
         | (obtain rfl := ckNo_inj h1; obtain rfl := toNat_inj h2; rfl)
         | (obtain rfl := ckNo_inj h1; rfl))

theorem perm_of_key {l l' : List At} (h : ((l.map key).isPerm (l'.map key)) = true) : l.Perm l' :=
  (List.map_perm_map_iff key_inj).mp (List.isPerm_iff.mp h)

theorem after_all : (after allSteps [.inp]).isSome = true := by decide +kernel
theorem inOrder_all : inOrder allSteps = true := by decide +kernel
/-- The names left over. -/
def left : List At := (after allSteps [.inp]).get after_all
theorem first_perm : first.Perm (allSteps.flatMap fresh) := perm_of_key (by decide +kernel)
theorem last_perm : (left ++ allSteps.flatMap fin).Perm last := perm_of_key (by decide +kernel)
theorem duts_perm : (allSteps.flatMap obs).Perm awayDuts := List.isPerm_iff.mp (by decide +kernel)

end Cert.KernelIdeal.Ring
-- ==== Proof.Pieces.lean ====
/-
  The buffers held piece by piece: the travelling buffer by slots, the staging buffer by blocks, the result by blocks;
  and the result the blocks make together.
-/
module

public import proofs.«01_k».proof.Proof.Run
public import Idealize.ShloMosaic.Lib.Ring
public import Idealize.ShloMosaic.Lib.MemrefSat

@[expose] public section

set_option maxRecDepth 20000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F)

/-! ## Pieces of any buffer -/

section Gen
variable {sp : Space} {sh : Shape} {e : EltTy}

omit [FloatOps F] in
/-- A memref holding `X` holds any contents that read as `X` through it. -/
theorem owns_at (c : Thread nD τ) (m : Memref sig c.2.kind sp sh e) (q : PosShare TreeShare) (X : sh.Idx → Elt F e) (g : m.view.ty.Contents (Elt F))
    (hg : m.view.read (Elt F) g = X) : (owns c m q X : sProp 𝕄) ⊢ (m.view.loc c ↦[m.view.set]{q} g) := by
  unfold owns
  iintro ⟨%f, %hf, H⟩
  have h : ∀ i ∈ m.view.set, f i = g i := fun i hi => by
    obtain ⟨y, rfl⟩ := View.exists_emb_of_mem_set m.view hi
    have := congrFun (hf.trans hg.symm) y
    rw [View.read_apply, View.read_apply] at this
    exact (cast_inj _).mp this
  iapply (Entails.of_eq (pointsTo_congr h))
  iexact H

omit [FloatOps F] in
theorem owns_some (c : Thread nD τ) (m : Memref sig c.2.kind sp sh e) (q : PosShare TreeShare) (f : m.view.ty.Contents (Elt F)) :
    (m.view.loc c ↦[m.view.set]{q} f : sProp 𝕄) ⊢ iprop(∃ v, owns c m q v) := by
  iintro H
  iexists (m.view.read (Elt F) f)
  unfold owns
  iexists f
  isplitr; · ipureintro; rfl
  iexact H

omit [FloatOps F] in
theorem owns_some' (c : Thread nD τ) (m : Memref sig c.2.kind sp sh e) (q : PosShare TreeShare) :
    iprop(∃ v, (owns c m q v : sProp 𝕄)) ⊢ iprop(∃ f, m.view.loc c ↦[m.view.set]{q} f) := by
  unfold owns
  iintro ⟨%v, %f, -, H⟩
  iexists f
  iexact H

end Gen

/-! ## The three buffers' pieces -/

theorem set_cV (f : Fin 4) (s : Fin 16) : (cV f s).view.set = (rC f s).set := by
  rw [← access_cV]; exact View.set_slice_whole _ _
theorem set_gV (f : Fin 4) (b : Fin 2) : (gV f b).view.set = (rG f b).set := by
  rw [← access_gV]; exact View.set_slice_whole _ _
theorem set_oV (d : Dev nD) (f : Fin 4) (k : Fin 16) :
    (oV d f k).view.set = (Rect.unit (s := S4096x2048) (oOff d f k) S256x512.size (oOff_inb d f k)).set := View.set_slice_whole _ _

/-- The slots' element sets. -/
def jC (p : Fin 4 × Fin 16) : Finset (cc0_scratch0 : Ref sig .tc).ty.Idx := (rC p.1 p.2).set
def jG (p : Fin 4 × Fin 2) : Finset (cc0_scratch1 : Ref sig .tc).ty.Idx := (rG p.1 p.2).set
def jO (d : Dev nD) (p : Fin 4 × Fin 16) : Finset (main_v1 : Ref sig .tc).ty.Idx :=
  (Rect.unit (s := S4096x2048) (oOff d p.1 p.2) S256x512.size (oOff_inb d p.1 p.2)).set

theorem mem_jC (p : Fin 4 × Fin 16) (i : S4x16x256x512.Idx) : i ∈ jC p ↔ (i 0).val = p.1.val ∧ (i 1).val = p.2.val := by
  unfold jC
  rw [Rect.mem_set_unit]
  constructor
  · intro h
    have h0 := h 0
    have h1 := h 1
    simp [S1x1x256x512] at h0 h1
    omega
  · rintro ⟨h0, h1⟩ a
    have := (i a).isLt
    fin_cases a <;> simp [S1x1x256x512, S4x16x256x512] at this ⊢ <;> omega

theorem mem_jG (p : Fin 4 × Fin 2) (i : S4x2x256x512.Idx) : i ∈ jG p ↔ (i 0).val = p.1.val ∧ (i 1).val = p.2.val := by
  unfold jG
  rw [Rect.mem_set_unit]
  constructor
  · intro h
    have h0 := h 0
    have h1 := h 1
    simp [S1x1x256x512] at h0 h1
    omega
  · rintro ⟨h0, h1⟩ a
    have := (i a).isLt
    fin_cases a <;> simp [S1x1x256x512, S4x2x256x512] at this ⊢ <;> omega

/-- The chunk of rows store `k` of flow `f` writes, and the store that writes a chunk. -/
def rowOf (d : Dev nD) (f : Fin 4) (k : Fin 16) : Dev nD := ⟨oOff d f k 0 / 256 % 16, Nat.mod_lt _ (by decide)⟩
def kOf (d : Dev nD) (f : Fin 4) (r : Dev nD) : Fin 16 := match f with
  | 0 => ⟨(d.val + 17 - r.val) % 16, Nat.mod_lt _ (by decide)⟩ | 1 => ⟨(d.val + 17 - r.val) % 16, Nat.mod_lt _ (by decide)⟩
  | 2 => ⟨(r.val + 17 - d.val) % 16, Nat.mod_lt _ (by decide)⟩ | 3 => ⟨(r.val + 17 - d.val) % 16, Nat.mod_lt _ (by decide)⟩

theorem rowOf_kOf (d : Dev nD) (f : Fin 4) (r : Dev nD) : rowOf d f (kOf d f r) = r := by revert d f r; decide +kernel
theorem kOf_rowOf (d : Dev nD) (f : Fin 4) (k : Fin 16) : kOf d f (rowOf d f k) = k := by revert d f k; decide +kernel
theorem oOff_0 (d : Dev nD) (f : Fin 4) (k : Fin 16) : oOff d f k 0 = 256 * (rowOf d f k).val := by revert d f k; decide +kernel
theorem oOff_1 (d : Dev nD) (f : Fin 4) (k : Fin 16) : oOff d f k 1 = 512 * f.val := by revert d f k; decide +kernel
/-- Chunk `r` of flow `f` is finished at the device before device `r`, whoever asks. -/
theorem back_kOf (d : Dev nD) (f : Fin 4) (r : Dev nD) : back f (kOf d f r).val d = prv f r := by revert d f r; decide +kernel
theorem back_row (d : Dev nD) (f : Fin 4) (k : Fin 16) : back f k.val d = prv f (rowOf d f k) := by
  rw [← back_kOf d f (rowOf d f k), kOf_rowOf]

theorem mem_jO (d : Dev nD) (p : Fin 4 × Fin 16) (i : S4096x2048.Idx) :
    i ∈ jO d p ↔ (i 0).val / 256 = (rowOf d p.1 p.2).val ∧ (i 1).val / 512 = p.1.val := by
  unfold jO
  rw [Rect.mem_set_unit]
  constructor
  · intro h
    have h0 := h 0
    have h1 := h 1
    rw [oOff_0] at h0
    rw [oOff_1] at h1
    simp [S256x512] at h0 h1
    omega
  · rintro ⟨h0, h1⟩ a
    have h0' := (i 0).isLt
    have h1' := (i 1).isLt
    fin_cases a
    · show oOff d p.1 p.2 0 ≤ (i 0).val ∧ (i 0).val < oOff d p.1 p.2 0 + 256
      rw [oOff_0]; omega
    · show oOff d p.1 p.2 1 ≤ (i 1).val ∧ (i 1).val < oOff d p.1 p.2 1 + 512
      rw [oOff_1]; omega

theorem disj_C (p p' : Fin 4 × Fin 16) (h : p ≠ p') : Disjoint (jC p) (jC p') := by
  rw [Finset.disjoint_left]
  intro i h1 h2
  rw [mem_jC] at h1 h2
  exact h (Prod.ext (Fin.ext (h1.1.symm.trans h2.1)) (Fin.ext (h1.2.symm.trans h2.2)))
theorem disj_G (p p' : Fin 4 × Fin 2) (h : p ≠ p') : Disjoint (jG p) (jG p') := by
  rw [Finset.disjoint_left]
  intro i h1 h2
  rw [mem_jG] at h1 h2
  exact h (Prod.ext (Fin.ext (h1.1.symm.trans h2.1)) (Fin.ext (h1.2.symm.trans h2.2)))
theorem disj_O (d : Dev nD) (p p' : Fin 4 × Fin 16) (h : p ≠ p') : Disjoint (jO d p) (jO d p') := by
  rw [Finset.disjoint_left]
  intro i h1 h2
  rw [mem_jO] at h1 h2
  have hf : p.1 = p'.1 := Fin.ext (h1.2.symm.trans h2.2)
  have hr : rowOf d p.1 p.2 = rowOf d p'.1 p'.2 := Fin.ext (h1.1.symm.trans h2.1)
  refine h (Prod.ext hf ?_)
  rw [← kOf_rowOf d p.1 p.2, ← kOf_rowOf d p'.1 p'.2, hr, hf]

theorem cover_C : Finset.univ.biUnion jC = Finset.univ := by
  ext i
  simp only [Finset.mem_biUnion, Finset.mem_univ, true_and, iff_true]
  exact ⟨((i 0 : Fin 4), (i 1 : Fin 16)), (mem_jC _ i).mpr ⟨rfl, rfl⟩⟩
theorem cover_G : Finset.univ.biUnion jG = Finset.univ := by
  ext i
  simp only [Finset.mem_biUnion, Finset.mem_univ, true_and, iff_true]
  exact ⟨((i 0 : Fin 4), (i 1 : Fin 2)), (mem_jG _ i).mpr ⟨rfl, rfl⟩⟩

/-- The flow and the chunk an element of the result belongs to. -/
def flowAt (i : S4096x2048.Idx) : Fin 4 := ⟨(i 1).val / 512, Nat.div_lt_of_lt_mul (show (i 1).val < 512 * 4 from (i 1).isLt)⟩
def rowAt (i : S4096x2048.Idx) : Dev nD := ⟨(i 0).val / 256, Nat.div_lt_of_lt_mul (show (i 0).val < 256 * 16 from (i 0).isLt)⟩
/-- Its place in the block. -/
def inBlk (i : S4096x2048.Idx) : S256x512.Idx := fun a => match a with
  | ⟨0, _⟩ => (⟨(i 0).val % 256, Nat.mod_lt _ (by decide)⟩ : Fin 256)
  | ⟨1, _⟩ => (⟨(i 1).val % 512, Nat.mod_lt _ (by decide)⟩ : Fin 512)

theorem cover_O (d : Dev nD) : Finset.univ.biUnion (jO d) = Finset.univ := by
  ext i
  simp only [Finset.mem_biUnion, Finset.mem_univ, true_and, iff_true]
  exact ⟨(flowAt i, kOf d (flowAt i) (rowAt i)), (mem_jO d _ i).mpr ⟨by rw [rowOf_kOf]; rfl, rfl⟩⟩

/-! ## Splitting and joining -/

omit [FloatOps F] in
theorem split_C (c : Dev nD) (f : Buf (Elt F) ((c : Thread nD τ).loc cc0_scratch0)) :
    ((c : Thread nD τ).loc cc0_scratch0 ↦{fullShare} f : sProp 𝕄) ⊢ bigSep Finset.univ fun p : Fin 4 × Fin 16 => slotE p.1 p.2 c := by
  rw [Ring.pointsTo_blocks jC disj_C cover_C f]
  refine bigSep_mono fun p _ => ?_
  rw [show jC p = (cV p.1 p.2).view.set from (set_cV _ _).symm]
  exact owns_some (c : Thread nD τ) (cV p.1 p.2) fullShare f
omit [FloatOps F] in
theorem split_G (c : Dev nD) (f : Buf (Elt F) ((c : Thread nD τ).loc cc0_scratch1)) :
    ((c : Thread nD τ).loc cc0_scratch1 ↦{fullShare} f : sProp 𝕄) ⊢ bigSep Finset.univ fun p : Fin 4 × Fin 2 => stagE p.1 p.2 c := by
  rw [Ring.pointsTo_blocks jG disj_G cover_G f]
  refine bigSep_mono fun p _ => ?_
  rw [show jG p = (gV p.1 p.2).view.set from (set_gV _ _).symm]
  exact owns_some (c : Thread nD τ) (gV p.1 p.2) fullShare f
omit [FloatOps F] in
theorem split_O (c : Dev nD) (f : Buf (Elt F) ((c : Thread nD τ).loc main_v1)) :
    ((c : Thread nD τ).loc main_v1 ↦{fullShare} f : sProp 𝕄) ⊢ bigSep Finset.univ fun p : Fin 4 × Fin 16 => outbE p.1 p.2 c := by
  rw [Ring.pointsTo_blocks (jO c) (disj_O c) (cover_O c) f]
  refine bigSep_mono fun p _ => ?_
  rw [show jO c p = (oV c p.1 p.2).view.set from (set_oV _ _ _).symm]
  exact owns_some (c : Thread nD τ) (oV c p.1 p.2) fullShare f

theorem join_C (c : Dev nD) :
    bigSep Finset.univ (fun p : Fin 4 × Fin 16 => slotE p.1 p.2 c)
      ⊢ (iprop(∃ f : Buf (Elt F) ((c : Thread nD τ).loc cc0_scratch0), (c : Thread nD τ).loc cc0_scratch0 ↦{fullShare} f) : sProp 𝕄) := by
  refine BIBase.Entails.trans (bigSep_mono fun p _ => ?_) (Ring.pointsTo_blocks_join_exists jC disj_C cover_C (fun _ => Classical.ofNonempty))
  rw [show jC p = (cV p.1 p.2).view.set from (set_cV _ _).symm]
  exact owns_some' (c : Thread nD τ) (cV p.1 p.2) fullShare
theorem join_G (c : Dev nD) :
    bigSep Finset.univ (fun p : Fin 4 × Fin 2 => stagE p.1 p.2 c)
      ⊢ (iprop(∃ f : Buf (Elt F) ((c : Thread nD τ).loc cc0_scratch1), (c : Thread nD τ).loc cc0_scratch1 ↦{fullShare} f) : sProp 𝕄) := by
  refine BIBase.Entails.trans (bigSep_mono fun p _ => ?_) (Ring.pointsTo_blocks_join_exists jG disj_G cover_G (fun _ => Classical.ofNonempty))
  rw [show jG p = (gV p.1 p.2).view.set from (set_gV _ _).symm]
  exact owns_some' (c : Thread nD τ) (gV p.1 p.2) fullShare

/-! ## The result -/

/-- What every device's result holds at the end: at each element its chunk's finished sum. -/
def res : (main_v1 : Ref sig .tc).ty.Contents (Elt F) :=
  fun i : S4096x2048.Idx => wide (ps I (flowAt i) 15 (prv (flowAt i) (rowAt i))) (inBlk i)

theorem stSrc_back (k : Fin 16) : ((stSrc k).val + 1) % 16 = k.val := by revert k; decide

theorem res_read (d : Dev nD) (f : Fin 4) (k : Fin 16) : (oV d f k).view.read (Elt F) (res I) = wide (fv I f (stSrc k) d) := by
  funext x
  have h0 : (x 0).val < 256 := (x 0).isLt
  have h1 : (x 1).val < 512 := (x 1).isLt
  obtain ⟨y, hy⟩ : ∃ y : S4096x2048.Idx, y = (oV d f k).view.emb x := ⟨_, rfl⟩
  have e0 : (y 0).val = 256 * (rowOf d f k).val + (x 0).val := by
    rw [hy, ← oOff_0, ← Nat.one_mul (x 0).val]; rfl
  have e1 : (y 1).val = 512 * f.val + (x 1).val := by
    rw [hy, ← oOff_1 d f k, ← Nat.one_mul (x 1).val]; rfl
  have hf : flowAt y = f := Fin.ext (by show (y 1).val / 512 = _; rw [e1]; omega)
  have hr : rowAt y = rowOf d f k := Fin.ext (by show (y 0).val / 256 = _; rw [e0]; omega)
  have hb : inBlk y = x := by
    funext a
    match a with
    | ⟨0, _⟩ => exact Fin.ext (by show (y 0).val % 256 = _; rw [e0, Nat.mul_add_mod]; exact Nat.mod_eq_of_lt h0)
    | ⟨1, _⟩ => exact Fin.ext (by show (y 1).val % 512 = _; rw [e1, Nat.mul_add_mod]; exact Nat.mod_eq_of_lt h1)
  have hread : (oV d f k).view.read (Elt F) (res I) x = res I y := by rw [hy]; rfl
  refine hread.trans ?_
  show wide (ps I (flowAt y) 15 (prv (flowAt y) (rowAt y))) (inBlk y) = _
  rw [hf, hr, hb, ← back_row, fv, stSrc_back]

theorem join_O (c : Dev nD) :
    bigSep Finset.univ (fun p : Fin 4 × Fin 16 => outb p.1 p.2 c (wide (fv I p.1 (stSrc p.2) c)))
      ⊢ ((c : Thread nD τ).loc main_v1 ↦{fullShare} res I : sProp 𝕄) := by
  have h := Ring.pointsTo_blocks (Ix := Unit) (Name := ℕ) (U := UU) (Lvl := ℕ) (ℓ := (c : Thread nD τ).loc main_v1) (q := fullShare) (jO c) (disj_O c) (cover_O c) (res I)
  refine BIBase.Entails.trans ?_ (Entails.of_eq h.symm)
  refine bigSep_mono fun p _ => ?_
  rw [show jO c p = (oV c p.1 p.2).view.set from (set_oV _ _ _).symm]
  exact owns_at (c : Thread nD τ) (oV c p.1 p.2) fullShare _ (res I) (res_read I c p.1 p.2)

end Cert.KernelIdeal.Ring
-- ==== Proof.Body.lean ====
/-
  A device's run of the kernel from what it begins with to what it ends with, and the region's data around it.
-/
module

public import proofs.«01_k».proof.Proof.Check
public import proofs.«01_k».proof.Proof.Pieces
public import proofs.«01_k».proof.Proof.Gen.KernelIdeal.Launch

@[expose] public section

set_option maxRecDepth 20000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (I : Inp F) (K : Dev nD × CK → ℕ)

/-! ## What is left at the end -/

theorem mem_pairs2 (p : Fin 4 × Fin 2) : p ∈ pairs2 := by revert p; decide +kernel
theorem nodup_pairs2 : pairs2.Nodup := by decide +kernel

omit [FloatOps F] in
theorem bigL_all {α : Type} [DecidableEq α] [Fintype α] (l : List α) (hn : l.Nodup) (hm : ∀ a, a ∈ l) (Φ : α → sProp 𝕄) :
    bigL l Φ = bigSep Finset.univ Φ := by
  rw [bigL_finset l hn]; congr 1; ext a; simp [hm a]

/-- Each cell's round is over, so its semaphore is at zero again. -/
theorem close_all (d : Dev nD) (l : List CK) :
    iprop(ctx I K ∗ bigL l (fun k => at' I d (.done k))) ⊢ |={Set.univ}=> (bigL l fun k => semVal (cell d k) 0 : sProp 𝕄) := by
  induction l with
  | nil =>
    rw [bigL_nil, bigL_nil]
    iintro ⟨-, -⟩
    imodintro; iempintro
  | cons k l ih =>
    rw [bigL_cons, bigL_cons]
    simp only [at']
    simp only [at'] at ih
    iintro ⟨#Hc, H, Hl⟩
    ihave Hk := (ctx_cell I K d k) $$ Hc
    icases Hk with ⟨#Hi, -⟩
    imod (Rounds.cell_close ER (sched I) (Set.mem_univ (K (d, k))) (fun h => h) (R := 0 + 1) (duties_later I d k)) $$ [H] with Hz
    · isplitr; · iexact Hi
      iexact H
    imod ih $$ [Hl] with Hzs
    · isplitr; · iexact Hc
      iexact Hl
    imodintro
    isplitl [Hz]; · iexact Hz
    iexact Hzs

/-- The two halves of the finished slots are the scratch buffer. -/
theorem join_halves (d : Dev nD) :
    iprop(bigL pairs16 (fun p => at' I d (.fa p.1 p.2)) ∗ bigL pairs16 (fun p => at' I d (.fb p.1 p.2)))
      ⊢ (iprop(∃ f : Buf (Elt F) ((d : Thread nD τ).loc cc0_scratch0), (d : Thread nD τ).loc cc0_scratch0 ↦{fullShare} f) : sProp 𝕄) := by
  rw [bigL_all pairs16 nodup_pairs16 mem_pairs16, bigL_all pairs16 nodup_pairs16 mem_pairs16, ← bigSep_sep']
  refine BIBase.Entails.trans (bigSep_mono fun p _ => ?_) (join_C d)
  have h := (owns_halves (Val := Elt F) (Ix := Unit) (Name := ℕ) (U := UU) (Lvl := ℕ) (d : Thread nD τ) (cV p.1 p.2) fullShare (fv I p.1 p.2 d)).2
  exact BIBase.Entails.trans h (exists_intro (Φ := fun v => slot fullShare p.1 p.2 d v) (fv I p.1 p.2 d))

theorem join_stg' (d : Dev nD) : bigL pairs2 (fun p => stagE (F := F) p.1 p.2 d)
    ⊢ (iprop(∃ f : Buf (Elt F) ((d : Thread nD τ).loc cc0_scratch1), (d : Thread nD τ).loc cc0_scratch1 ↦{fullShare} f) : sProp 𝕄) := by
  rw [bigL_all pairs2 nodup_pairs2 mem_pairs2]
  exact join_G d

theorem join_out' (d : Dev nD) : bigL pairs16 (fun p => outb p.1 p.2 d (wide (fv I p.1 (stSrc p.2) d)))
    ⊢ ((d : Thread nD τ).loc main_v1 ↦{fullShare} res I : sProp 𝕄) := by
  rw [bigL_all pairs16 nodup_pairs16 mem_pairs16]
  exact join_O I d

/-- What a device's memory and semaphores are at the end. -/
def done (c : Dev nD) : sProp 𝕄 :=
  iprop(((c : Thread nD τ).loc main_v1 ↦{fullShare} res I)
    ∗ (∃ f : Buf (Elt F) ((c : Thread nD τ).loc cc0_scratch0), (c : Thread nD τ).loc cc0_scratch0 ↦{fullShare} f)
    ∗ (∃ f : Buf (Elt F) ((c : Thread nD τ).loc cc0_scratch1), (c : Thread nD τ).loc cc0_scratch1 ↦{fullShare} f)
    ∗ bigL allCK fun k => semVal (cell c k) 0)

theorem finish (d : Dev nD) : iprop(ctx I K ∗ bigL last (at' I d)) ⊢ |={Set.univ}=> iprop(done I d ∗ inp I d) := by
  unfold last done
  simp only [bigL_append, bigL_map, bigL_cons, bigL_nil]
  iintro ⟨#Hc, ⟨Hin, -⟩, Hfa, Hfb, Hst, Hout, Hdone, -⟩
  imod (close_all I K d allCK) $$ [Hdone] with Hz
  · isplitr; · iexact Hc
    iexact Hdone
  imodintro
  isplitr [Hin]
  · isplitl [Hout]
    · simp only [at']
      iapply (join_out' I d); iexact Hout
    isplitl [Hfa Hfb]
    · iapply (join_halves I d)
      isplitl [Hfa]; · iexact Hfa
      iexact Hfb
    isplitl [Hst]
    · simp only [at']
      iapply (join_stg' d); iexact Hst
    iexact Hz
  · simp only [at']; iexact Hin

/-- A device's run of the kernel. -/
theorem sound (d : Dev nD) (Q : PUnit → sProp 𝕄) :
    iprop(ctx I K ∗ OW d (allSteps.flatMap obs) ∗ bigL first (at' I d) ∗ inp I d ∗ (OW d [] ∗ done I d ∗ inp I d -∗ Q ⟨⟩))
      ⊢ WP d (body cc0_body) Q := by
  rw [body_eq]
  show _ ⊢ wp frame (wpE (defs₀ (F := F)) 𝒱₀ (d : Thread nD τ) none) Set.univ (.op .deviceId fun d => runs d allSteps) Q
  rw [wp_deviceId, bigL_perm first_perm]
  iintro ⟨#Hc, HO, Hf, Hin, Hk⟩
  iapply wp_fupd
  iapply (runs_ok I K (Q := fun u => iprop(|={Set.univ}=> Q u)) d allSteps [.inp] left (Option.some_get after_all).symm inOrder_all)
  isplitr; · iexact Hc
  isplitl [HO]; · iexact HO
  isplitl [Hin]
  · simp only [bigL_cons, bigL_nil, at']
    isplitl; · iexact Hin
    iempintro
  isplitl [Hf]; · iexact Hf
  iintro ⟨HO, HS, HF⟩
  have he : iprop(bigL left (at' I d) ∗ bigL (allSteps.flatMap fin) (at' I d)) ⊢ bigL last (at' I d) := by
    rw [← bigL_append]; exact Entails.of_eq (bigL_perm last_perm _)
  ihave HL := he $$ [HS HF]
  · isplitl [HS]; · iexact HS
    iexact HF
  imod (finish I K d) $$ [HL] with ⟨HD, HI⟩
  · isplitr; · iexact Hc
    iexact HL
  imodintro
  iapply Hk
  isplitl [HO]; · iexact HO
  isplitl [HD]; · iexact HD
  iexact HI

/-! ## The region's data -/

variable (m : (ℓ : Loc nD τ sig) → Buf (Elt F) ℓ) (ρ : Dev nD → PrngReg)

/-- The machine at launch. -/
def s₀ : MemSt nD τ sig (Elt F) := ⟨m, fun _ => 0, ρ⟩

/-- The devices' staged operands at launch. -/
def inpOf : Inp F where
  x c := (win0_0.blk (0 : Fin 1)).view.read (Elt F) ((s₀ m ρ).mem ((c : Thread nD τ).loc main_arg0))
  w c := (win0_1.blk (0 : Fin 1)).view.read (Elt F) ((s₀ m ρ).mem ((c : Thread nD τ).loc main_arg1))
  a c := (win0_2.blk (0 : Fin 1)).view.read (Elt F) ((s₀ m ρ).mem ((c : Thread nD τ).loc main_arg2))
  b c := (win0_3.blk (0 : Fin 1)).view.read (Elt F) ((s₀ m ρ).mem ((c : Thread nD τ).loc main_arg3))

def Φ₀ (c : Dev nD) : sProp 𝕄 := iprop(∃ K, ctx (inpOf m ρ) K ∗ bigL first (at' (inpOf m ρ) c))
def Φ₁ (c : Dev nD) : sProp 𝕄 := done (inpOf m ρ) c
def O₀ (c : Dev nD) : CellTallies nD τ sig Unit := owed c (allSteps.flatMap obs)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inpOf m ρ).x c
    | ⟨1, _⟩ => (inpOf m ρ).w c
    | ⟨2, _⟩ => (inpOf m ρ).a c
    | ⟨3, _⟩ => (inpOf m ρ).b c
    | ⟨_ + 4, h⟩ => absurd h (Nat.not_lt.2 (Nat.le_add_left _ _))
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev t₀ : Fin cfg0.N := t0_0
theorem fetch_0 : (cfg0.win (0 : Fin 4)).fetch t₀ = true := rfl
theorem fetch_1 : (cfg0.win (1 : Fin 4)).fetch t₀ = true := rfl
theorem fetch_2 : (cfg0.win (2 : Fin 4)).fetch t₀ = true := rfl
theorem fetch_3 : (cfg0.win (3 : Fin 4)).fetch t₀ = true := rfl

/-- A staging buffer holding `X`, as the region states it. -/
abbrev stgIs (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stgIs c cc0_stg0_0 ((dats m ρ 0 c).before (0 : Fin 4) t₀ d))
    ∗ (∃ d, stgIs c cc0_stg1_0 ((dats m ρ 0 c).before (1 : Fin 4) t₀ d))
    ∗ (∃ d, stgIs c cc0_stg2_0 ((dats m ρ 0 c).before (2 : Fin 4) t₀ d))
    ∗ (∃ d, stgIs c cc0_stg3_0 ((dats m ρ 0 c).before (3 : Fin 4) t₀ d)))
def bodyPost (c : Dev nD) : sProp 𝕄 :=
  iprop(Φ₁ m ρ c ∗ (dats m ρ 0 c).owesAt () t₀.succ ∗ stgIs c cc0_stg0_0 ((inpOf m ρ).x c) ∗ stgIs c cc0_stg1_0 ((inpOf m ρ).w c)
    ∗ stgIs c cc0_stg2_0 ((inpOf m ρ).a c) ∗ stgIs c cc0_stg3_0 ((inpOf m ρ).b c))

theorem body_run (c : Dev nD) : bodyPre m ρ c ⊢ WP c (body cc0_body) fun _ => bodyPost m ρ c := by
  unfold bodyPre Φ₀
  iintro ⟨⟨%K, #Hc, Hf⟩, Ho, ⟨%d0, %g0, %h0, H0⟩, ⟨%d1, %g1, %h1, H1⟩, ⟨%d2, %g2, %h2, H2⟩, ⟨%d3, %g3, %h3, H3⟩⟩
  have h0' : g0 = (inpOf m ρ).x c := by rw [h0]; unfold Dat.before; rw [if_pos fetch_0]; rfl
  have h1' : g1 = (inpOf m ρ).w c := by rw [h1]; unfold Dat.before; rw [if_pos fetch_1]; rfl
  have h2' : g2 = (inpOf m ρ).a c := by rw [h2]; unfold Dat.before; rw [if_pos fetch_2]; rfl
  have h3' : g3 = (inpOf m ρ).b c := by rw [h3]; unfold Dat.before; rw [if_pos fetch_3]; rfl
  clear h0 h1 h2 h3
  subst h0' h1' h2' h3'
  unfold Dat.owesAt Pipeline.owesWithin
  icases Ho with ⟨%W, %hW, HO⟩
  iapply (sound (inpOf m ρ) K c fun _ => bodyPost m ρ c)
  isplitr; · iexact Hc
  isplitl [HO]
  · unfold OW; iexists W; iexact HO
  isplitl [Hf]; · iexact Hf
  isplitl [H0 H1 H2 H3]
  · unfold inp
    isplitl [H0]; · iexact H0
    isplitl [H1]; · iexact H1
    isplitl [H2]; · iexact H2
    iexact H3
  unfold bodyPost OW inp Φ₁ Dat.owesAt Pipeline.owesWithin
  iintro ⟨⟨%W', HO⟩, HD, H0, H1, H2, H3⟩
  isplitl [HD]; · iexact HD
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  · iexists _; isplitr; · (ipureintro; rfl)
    iexact H3

theorem body_obligation (c : Dev nD) : BodyObligation (dats (F := F) m ρ 0 c) (defs₀ (F := F)) 𝒱₀ () Set.univ := fun t => by
  rw [fin_N0 t]
  rw [show (bigSep Finset.univ : (Fin cfg0.W → sProp 𝕄) → sProp 𝕄) = fun Φ => iprop(Φ (0 : Fin 4) ∗ Φ (1 : Fin 4) ∗ Φ (2 : Fin 4) ∗ Φ (3 : Fin 4)) from
    funext fun Φ => bigSep_W0 Φ]
  simp only [owns_whole_eq]
  have hb : defs₀ (F := F) Proc.tc 0 (t0_0, cfg0.slots t0_0) = body cc0_body := rfl
  rw [hb]
  have hp : (dats m ρ 0 c).Φ t0_0.castSucc = Φ₀ m ρ c := rfl
  have hq : (dats m ρ 0 c).Φ t0_0.succ = Φ₁ m ρ c := rfl
  rw [hp, hq]
  have h := body_run m ρ c
  unfold bodyPre bodyPost at h
  refine BIBase.Entails.trans (BIBase.Entails.trans ?_ h) ?_
  · exact .rfl
  · apply wp_mono
    intro u
    exact .rfl

end Cert.KernelIdeal.Ring
-- ==== Proof.Launch.lean ====
/-
  The launch: the cells and duties minted and dealt, the credit the devices owe each other, and the run of `main`.
-/
module

public import proofs.«01_k».proof.Proof.Body
public import Idealize.ShloMosaic.Lib.Pipeline.CollectiveSegs

@[expose] public section

set_option maxRecDepth 20000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's semaphores -/

/-- The kernel's own semaphores: all cells' but the barrier's. -/
abbrev OwnCK : Type := {k : CK // k ≠ .bar}
abbrev osem' (k : OwnCK) : SemLoc sig := osem k.1

theorem osem_scoped (k : CK) (h : k ≠ .bar) : (osem k).isScoped .tc = true := by
  rcases k with _ | _ | ⟨f, k⟩ | ⟨f, k⟩ | ⟨f, k⟩ | ⟨f, k⟩ | ⟨f, k⟩
  · exact absurd rfl h
  · decide +kernel
  all_goals (revert f k; decide +kernel)

theorem ckNo_ne (k : CK) (n : ℕ) (h1 : 1000 ≤ n) (h2 : n < 1004) : ckNo k ≠ n := by
  rcases k with _ | _ | ⟨f, k⟩ | ⟨f, k⟩ | ⟨f, k⟩ | ⟨f, k⟩ | ⟨f, k⟩ <;> simp only [ckNo] <;> omega
theorem stage_no (w : Fin 4) (s : Fin (spec0 w).nbuf) : 1000 ≤ semNo (.dma ((spec0 w).sem s) : SemLoc sig) ∧ semNo (.dma ((spec0 w).sem s) : SemLoc sig) < 1004 := by
  revert w s; decide +kernel
theorem osem_ne_stage (k : CK) (w : Fin 4) (s : Fin (spec0 w).nbuf) : osem k ≠ .dma ((spec0 w).sem s) := fun h =>
  ckNo_ne k _ (stage_no w s).1 (stage_no w s).2 ((semNo_osem k).symm.trans (congrArg semNo h))

theorem ownSemFacts : Pipeline.OwnSemFacts cfg0.spec osem' where
  isScoped k := osem_scoped k.1 k.2
  inj _ _ h := Subtype.ext (osem_inj h)
  disj k w s := osem_ne_stage k.1 w s

theorem share_eq (c : Dev nD) (w : Fin cfg0.W) : (dats m ρ 0 c).share w = fullShare := by unfold Dat.share; split <;> rfl

/-! ## What the launch mints -/

theorem kcell_inj : Function.Injective (fun p : Dev nD × CK => cell p.1 p.2) := fun _ _ h => Prod.ext (cell_inj h).1 (cell_inj h).2
def ringCells : Finset (GSem nD τ sig) := Finset.univ.map ⟨fun p : Dev nD × CK => cell p.1 p.2, kcell_inj⟩
theorem tokOf_inj : Function.Injective (fun p : Dev nD × (CK × Bool) => ((cell p.1 p.2.1, 0, p.2.2) : GSem nD τ sig × ℕ × Bool)) := fun a b h => by
  have h1 := cell_inj (congrArg Prod.fst h)
  exact Prod.ext h1.1 (Prod.ext h1.2 (congrArg (fun x : GSem nD τ sig × ℕ × Bool => x.2.2) h))
def ringToks : Finset (GSem nD τ sig × ℕ × Bool) := Finset.univ.map ⟨fun p : Dev nD × (CK × Bool) => (cell p.1 p.2.1, 0, p.2.2), tokOf_inj⟩

def u₀ : UU := (initOf (Pipeline.cells cfgs cellOf_inj) (Pipeline.launchToks cfgs cellOf_inj), initOf ringCells ringToks)

/-- What the launch deals a device: its cells' books, its places in them, and its cells' duties. -/
def G (c : Dev nD) : sProp 𝕄 :=
  iprop((bigSep Finset.univ fun k : CK => roundState ER (sched (inpOf m ρ)) (cell c k) 0)
    ∗ (bigSep Finset.univ fun k : CK => iprop(atPos ER (cell c k) 0 ∅ 0 ∗ reached ER (cell c k) 0))
    ∗ bigSep Finset.univ fun o : CK × Bool => dutyTok ER (cell c o.1) 0 o.2)

/-- The cells' records, shared by all. -/
def recs (K : Dev nD × CK → ℕ) : sProp 𝕄 :=
  bigSep Finset.univ fun p : Dev nD × CK => iprop(cellInv ER (sched (inpOf m ρ)) (K p) (cell p.1 p.2) ∗ reached ER (cell p.1 p.2) 0)
instance recs_persistent (K : Dev nD × CK → ℕ) : BI.Persistent (recs m ρ K) := by unfold recs; infer_instance

/-- What a device has once the cells are shared: the records, its places, and the duties it pays. -/
def G' (c : Dev nD) : sProp 𝕄 :=
  iprop(∃ K, recs m ρ K ∗ (bigSep Finset.univ fun k : CK => atPos ER (cell c k) 0 ∅ 0)
    ∗ bigSep Finset.univ fun o : CK × Bool => dutyTok ER (cell (pd o.1 o.2 c) o.1) 0 o.2)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CK => Φ (cell c k) := by
    unfold ringCells; rw [bigSep_map, bigSep_univ_prod]; rfl
  have hT : bigSep ringToks (fun x => (dutyTok ER x.1 x.2.1 x.2.2 : sProp 𝕄))
      = bigSep Finset.univ fun c : Dev nD => bigSep Finset.univ fun o : CK × Bool => dutyTok ER (cell c o.1) 0 o.2 := by
    unfold ringToks; rw [bigSep_map, bigSep_univ_prod]; rfl
  iintro HX
  imod (Rounds.fund ER (sched (inpOf m ρ)) ringCells ringToks) $$ HX with ⟨Hst, Hr, Hat, Htok⟩
  imodintro
  ihave Hst' := (Entails.of_eq (hX fun g => roundState ER (sched (inpOf m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem unscopedSems0_eq (c : Dev nD) : (unscopedSems0 c : sProp 𝕄) = semVal (cell c .bar) 0 := by
  unfold unscopedSems0; rw [bigSep_eq_bigSepL_of_eq [SemLoc.reg barS] (by decide +kernel) (by decide +kernel)]; rfl

omit [FloatOps F] in
theorem sems_eq (c : Dev nD) :
    (bigSep Finset.univ fun k : CK => (semVal (cell c k) 0 : sProp 𝕄))
      = iprop(unscopedSems0 c ∗ Pipeline.ownSems0 (Ix := Unit) (Name := ℕ) (U := UU) (Lvl := ℕ) (Val := Elt F) (τ := τ) osem' c) := by
  rw [unscopedSems0_eq, bigSep_univ_at _ CK.bar]
  unfold Pipeline.ownSems0
  rw [bigSep_subtype_ne CK.bar fun k => semVal (cell c k) 0]

theorem core_alloc (c : Dev nD) :
    iprop(Pipeline.ownSems0 (Ix := Unit) (Name := ℕ) (U := UU) (Lvl := ℕ) (Val := Elt F) (τ := τ) osem' c ∗ unscopedSems0 c ∗ G m ρ c)
      ⊢ |={Set.univ}=> iprop((bigSep Finset.univ fun k => iprop(∃ κ : ℕ, cellInv ER (sched (inpOf m ρ)) κ (cell c k)))
          ∗ (bigSep Finset.univ fun k : CK => iprop(atPos ER (cell c k) 0 ∅ 0 ∗ reached ER (cell c k) 0))
          ∗ bigSep Finset.univ fun o : CK × Bool => dutyTok ER (cell c o.1) 0 o.2) := by
  have hv := Entails.of_eq (sems_eq (F := F) c).symm
  have ha : iprop((bigSep Finset.univ fun k : CK => semVal (cell c k) 0) ∗ bigSep Finset.univ fun k : CK => roundState ER (sched (inpOf m ρ)) (cell c k) 0)
      ⊢ (|={Set.univ}=> bigSep Finset.univ fun k => iprop(∃ κ : ℕ, cellInv ER (sched (inpOf m ρ)) κ (cell c k)) : sProp 𝕄) := by
    rw [← bigSep_sep']
    exact (bigSep_mono fun k _ => (Rounds.body_intro ER (sched (inpOf m ρ)) (cell c k)).trans inv_alloc).trans (bigSep_fupd _ _)
  unfold G
  iintro ⟨Hos, Hus, Hst, Hat, Htok⟩
  ihave Hv := hv $$ [Hos Hus]
  · isplitl [Hus] <;> iassumption
  imod ha $$ [Hv Hst] with Hinv
  · isplitl [Hv] <;> iassumption
  imodintro
  isplitl [Hinv]; · iexact Hinv
  isplitl [Hat]; · iexact Hat
  iexact Htok

omit [FloatOps F] in
/-- The duties dealt to the devices that pay them. -/
theorem toks_around :
    (bigSep Finset.univ fun c : Dev nD => bigSep Finset.univ fun o : CK × Bool => (dutyTok ER (cell c o.1) 0 o.2 : sProp 𝕄))
      = bigSep Finset.univ fun c : Dev nD => bigSep Finset.univ fun o : CK × Bool => dutyTok ER (cell (pd o.1 o.2 c) o.1) 0 o.2 := by
  rw [BI.bigSep_univ_comm, BI.bigSep_univ_comm (fun (c : Dev nD) (o : CK × Bool) => (dutyTok ER (cell (pd o.1 o.2 c) o.1) 0 o.2 : sProp 𝕄))]
  exact bigSep_congr fun o _ => bigSep_univ_equiv (pdE o.1 o.2) fun c : Dev nD => (dutyTok ER (cell c o.1) 0 o.2 : sProp 𝕄)

omit [FloatOps F] in
theorem with_each {S : Finset (Dev nD)} {R : sProp 𝕄} [BI.Persistent R] {Φ Ψ : Dev nD → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched (inpOf m ρ)) κ (cell c k)))
          ∗ (bigSep Finset.univ fun k : CK => iprop(atPos ER (cell c k) 0 ∅ 0 ∗ reached ER (cell c k) 0))
          ∗ bigSep Finset.univ fun o : CK × Bool => dutyTok ER (cell c o.1) 0 o.2) : sProp 𝕄)
      ⊢ bigSep Finset.univ (G' m ρ) := by
  rw [bigSep_sep', bigSep_sep', ← bigSep_univ_prod (fun p : Dev nD × CK => iprop(∃ κ : ℕ, cellInv ER (sched (inpOf m ρ)) κ (cell p.1 p.2))),
    bigSep_congr (s := Finset.univ) (fun (c : Dev nD) _ => bigSep_sep' Finset.univ (fun k : CK => (atPos ER (cell c k) 0 ∅ 0 : sProp 𝕄)) (fun k => reached ER (cell c k) 0)),
    bigSep_sep', ← bigSep_univ_prod (fun p : Dev nD × CK => (reached ER (cell p.1 p.2) 0 : sProp 𝕄)), toks_around]
  have hx := BI.bigSep_exists_pi Finset.univ (fun (p : Dev nD × CK) (κ : ℕ) => (cellInv ER (sched (inpOf m ρ)) κ (cell p.1 p.2) : sProp 𝕄))
  have hg (K : Dev nD × CK → ℕ) (c : Dev nD) : iprop(recs m ρ K ∗ (bigSep Finset.univ fun k : CK => atPos ER (cell c k) 0 ∅ 0)
      ∗ bigSep Finset.univ fun o : CK × Bool => dutyTok ER (cell (pd o.1 o.2 c) o.1) 0 o.2) ⊢ G' m ρ c := by
    unfold G'
    iintro H
    iexists K
    iexact H
  iintro ⟨HI, ⟨Hat, #HR⟩, Htok⟩
  ihave HK := hx $$ HI
  icases HK with ⟨%K, #HI⟩
  iapply (with_each (R := recs m ρ K) fun c _ => hg K c)
  isplitr
  · unfold recs
    rw [bigSep_sep']
    isplitl; · iexact HI
    iexact HR
  · rw [bigSep_sep']
    isplitl [Hat]; · iexact Hat
    iexact Htok

/-- All the devices' cells opened at once. -/
theorem glob : (bigSep Finset.univ fun c => iprop(Pipeline.ownSems0 (Ix := Unit) (Name := ℕ) (U := UU) (Lvl := ℕ) (Val := Elt F) (τ := τ) osem' c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- The cells other devices pay into. -/
def credited : List CK := .bar :: .exit :: away

theorem owed_perm (d : Dev nD) {R R' : List (CK × Bool)} (h : R.Perm R') : owed d R = owed d R' := by
  unfold owed; exact (h.map _).sum_eq

/-- What the devices together owe a cell. -/
theorem sum_owed (R : List (CK × Bool)) (c : Dev nD) (k : CK) : ∑ d, owed d R (cell c k) () = R.countP (fun o => o.1 = k) * amt1 k := by
  induction R with
  | nil => simp [owed]
  | cons o R ih =>
    simp only [owed_cons, Pi.add_apply, Finsupp.add_apply, Finset.sum_add_distrib, ih, List.countP_cons, Nat.add_mul]
    refine Nat.add_left_cancel_iff.mpr ?_
    by_cases h : o.1 = k
    · subst h
      rw [Finset.sum_eq_single (pdInv o.1 o.2 c)]
      · rw [pd_pdInv, tallyAt_apply, if_pos ⟨rfl, rfl⟩]; simp
      · intro d _ hd
        rw [tallyAt_ne_cell, Finsupp.zero_apply]
        intro he
        exact hd (by rw [(cell_inj he).1, pdInv_pd])
      · intro hn; exact absurd (Finset.mem_univ _) hn
    · rw [Finset.sum_eq_zero fun d _ => by rw [tallyAt_ne_cell (fun he => h (cell_inj he).2.symm), Finsupp.zero_apply]]
      simp [h]

theorem count_credited : ∀ k ∈ credited, awayDuts.countP (fun o => o.1 = k) = (duts k).card := by decide +kernel

theorem launch_credit (c : Dev nD) (k : CK) (hk : k ∈ credited) :
    tallyOn (cell c k) (launchCredit (Pipeline.owing O₀) 0 (cell c k)) = (tallyAt (cell c k) () (amt k) : CellTallies nD τ sig Unit) := by
  unfold tallyAt; refine congrArg _ (Finsupp.ext fun u => ?_); cases u
  rw [Pipeline.launchCredit_owing, Finsupp.single_eq_same]
  unfold O₀
  rw [Finset.sum_congr rfl fun d _ => by rw [owed_perm d duts_perm], sum_owed, count_credited k hk, ← sum_duts, Finset.sum_const, smul_eq_mul]

theorem nodup_credited : credited.Nodup := by decide +kernel

theorem creds (c : Dev nD) : (Pipeline.launchCred O₀ c : sProp 𝕄) ⊢ bigL credited fun k => cred (tallyAt (cell c k) () (amt k)) := by
  have h1 : ∀ k ∈ credited.toFinset, (cred (tallyAt (cell c k) () (amt k)) : sProp 𝕄) = cred (tallyOn (cell c k) (launchCredit (Pipeline.owing O₀) 0 (cell c k))) :=
    fun k hk => by rw [← launch_credit c k (List.mem_toFinset.mp hk)]
  have h2 := bigSep_map (s := credited.toFinset) ⟨osem, osem_inj⟩
    (Φ := fun sm : SemLoc sig => (cred (tallyOn ((c : Thread nD τ), sm) (launchCredit (Pipeline.owing O₀) 0 ((c : Thread nD τ), sm))) : sProp 𝕄))
  rw [bigL_finset credited nodup_credited, bigSep_congr h1]
  unfold Pipeline.launchCred
  exact (bigSep_subset (Finset.subset_univ _)).trans (Entails.of_eq h2)

/-! ## The launch theorem's conditions -/

/-- What a device starts from. -/
def start (c : Dev nD) : sProp 𝕄 :=
  iprop(G' m ρ c ∗ levAts L lv ∗ (bigL credited fun k => cred (tallyAt (cell c k) () (amt k))) ∗ ((c : Thread nD τ).loc main_v1 ↦{fullShare} m ((c : Thread nD τ).loc main_v1)))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  have hc := creds (F := F) c
  iintro ⟨Hv, Hlev, Hcr, -, HG⟩
  ihave Hc := hc $$ Hcr
  imodintro
  unfold start
  isplitl
  · isplitl [HG]; · iexact HG
    isplitl [Hlev]; · iexact Hlev
    isplitl [Hc]; · iexact Hc
    iexact Hv
  · iempintro

theorem nodup_allDuts : allDuts.Nodup := by decide +kernel

section Start
variable (I : Inp F) (c : Dev nD)
theorem start_own (f) : ((c : Thread nD τ).loc cc0_scratch0 ↦{fullShare} f : sProp 𝕄) ⊢ bigL pairs16 fun p => at' I c (.own p.1 p.2) := by
  rw [bigL_all pairs16 nodup_pairs16 mem_pairs16]; exact split_C c f
theorem start_stg (f) : ((c : Thread nD τ).loc cc0_scratch1 ↦{fullShare} f : sProp 𝕄) ⊢ bigL pairs2 fun p => at' I c (.stg p.1 p.2) := by
  rw [bigL_all pairs2 nodup_pairs2 mem_pairs2]; exact split_G c f
theorem start_out (f) : ((c : Thread nD τ).loc main_v1 ↦{fullShare} f : sProp 𝕄) ⊢ bigL pairs16 fun p => at' I c (.out p.1 p.2) := by
  rw [bigL_all pairs16 nodup_pairs16 mem_pairs16]; exact split_O c f
theorem start_tok : (bigSep Finset.univ fun o : CK × Bool => (dutyTok ER (cell (pd o.1 o.2 c) o.1) 0 o.2 : sProp 𝕄)) ⊢ bigL allDuts fun o => at' I c (.tok o.1 o.2) := by
  rw [bigL_finset allDuts nodup_allDuts]; exact bigSep_subset (Finset.subset_univ _)
theorem start_pos : (bigSep Finset.univ fun k : CK => (atPos ER (cell c k) 0 ∅ 0 : sProp 𝕄)) ⊢ bigL allCK fun k => at' I c (.pos k) := by
  rw [bigL_all allCK nodup_allCK mem_allCK]; exact .rfl
end Start

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ start G' ctx first
  simp only [bigL_append, bigL_map]
  have hC (f) := start_own (inpOf m ρ) c f
  have hG (f) := start_stg (inpOf m ρ) c f
  have hO (f) := start_out (inpOf m ρ) c f
  have hT := start_tok (inpOf m ρ) c
  have hP := start_pos (inpOf m ρ) c
  iintro ⟨⟨⟨%K, HR, Hat, Htok⟩, Hlev, Hcr, Hv⟩, -, ⟨⟨%f, Hf⟩, ⟨%g, Hg⟩⟩⟩
  ihave Hf := (hC f) $$ Hf
  ihave Hg := (hG g) $$ Hg
  ihave Hv := (hO _) $$ Hv
  ihave Htok := hT $$ Htok
  ihave Hat := hP $$ Hat
  iexists K
  isplitl [HR Hlev]
  · unfold recs
    isplitl [HR]; · iexact HR
    iexact Hlev
  isplitl [Hf]; · iexact Hf
  isplitl [Hg]; · iexact Hg
  isplitl [Hv]; · iexact Hv
  isplitl [Htok]; · iexact Htok
  isplitl [Hat]; · iexact Hat
  iexact Hcr

theorem phi1_exit (c : Dev nD) :
    (dats m ρ 0 c).Φ (Fin.last cfg0.N) ⊢ iprop((((c : Thread nD τ).loc main_v1 ↦{fullShare} res (inpOf m ρ)) ∗ unscopedSems0 c)
      ∗ Pipeline.ownSems0 osem' c ∗ Pipeline.scopedRest cfg0.spec c) := by
  rw [show (dats m ρ 0 c).Φ (Fin.last cfg0.N) = Φ₁ m ρ c from rfl, scopedRest0_eq]
  unfold Φ₁ done
  rw [bigL_all allCK nodup_allCK mem_allCK, sems_eq]
  iintro ⟨Hv, Hf, Hg, HB, HS⟩
  isplitl [Hv HB]
  · isplitl [Hv] <;> iassumption
  isplitl [HS]; · iexact HS
  isplitl [Hf] <;> iassumption

theorem lv_stage (c : Dev nD) (w : Fin 4) (s : Fin (spec0 w).nbuf) : lv ((c : Thread nD τ), .dma ((spec0 w).sem s)) () ≤ 0 := by
  unfold lv
  rw [dec_none fun k => osem_ne_stage k w s]

theorem lvl_away : ∀ o ∈ awayDuts, 0 < lvl o.1 := by decide +kernel

theorem stage_waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_of c _ 0 (lv_stage c w s) (allSteps.flatMap obs) fun o ho => lvl_away o (duts_perm.mem_iff.mp ho)
    · exact mayWait_of c _ 0 (lv_stage c w s) [] fun o ho => absurd ho (List.not_mem_nil)

/-! ## The run -/

/-- What a run leaves: every device's operands as they were and its result. -/
def QC : PUnit × MemSt nD τ sig (Elt F) → Prop := fun r => ∀ c : Dev nD,
  (r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3))
  ∧ r.2.mem ((c : Thread nD τ).loc main_v1) = res (inpOf m ρ)

theorem arr_kept (c : Dev nD) (w : Fin 4) : (dats m ρ 0 c).arrAt w cfg0.N = (s₀ m ρ).mem ((cfg0.win w).arr.view.loc (c : Thread nD τ)) :=
  (dats m ρ 0 c).arrAt_in w (by fin_cases w <;> rfl) _

set_option maxRecDepth 1000000 in
set_option maxHeartbeats 4000000 in
/-- Every fair execution from any memory with zero counters ends, with every device's result the sum, its operands as
    they were, and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => block_pos0 w) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := stage_waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => iprop(((c : Thread nD τ).loc main_v1 ↦{fullShare} res (inpOf m ρ)) ∗ unscopedSems0 c)) (Z := fun _ => iprop(emp))
    (hX := start_intro m ρ) (hin := phi0_intro m ρ) (hout := phi1_exit m ρ)
    (QY := fun c s => s.mem ((c : Thread nD τ).loc main_v1) = res (inpOf m ρ) ∧ ∀ sm : SemLoc sig, sm.isScoped .tc = false → s.sem ((c.tc : Thread nD τ), sm) = 0)
    (hY := fun c s' => by
      iintro ⟨⟨Hv, Hu⟩, -, HSI⟩
      icombine HSI Hv gives %h
      imod (Pipeline.unscopedSems0_read (X := unscopedSems0 c) (c := c) fupd_intro s') $$ [Hu HSI] with ⟨%hz, HSI⟩
      · isplitl [Hu] <;> iassumption
      imodintro
      isplitr
      · ipureintro; exact ⟨Buf.eq_of_forall_mem_univ h, hz⟩
      iexact HSI)
    (hQ := fun _ h hs => ⟨fun c => ⟨⟨((h c).1 0).trans (arr_kept m ρ c 0), ((h c).1 1).trans (arr_kept m ρ c 1), ((h c).1 2).trans (arr_kept m ρ c 2),
      ((h c).1 3).trans (arr_kept m ρ c 3)⟩, (h c).2.2.1⟩, sem_eq_zero hs fun c => (h c).2.2.2⟩)

end Cert.KernelIdeal.Ring
-- ==== Proof.Sum.lean ====
/-
  The result over the reals: every chunk's finished sum is the sum of all devices' products, in whatever order its
  journey added them.
-/
module

public import proofs.«01_k».proof.Proof.Pieces
public import Idealize.ShloMosaic.Lib.Pointwise
public import Idealize.ShloMosaic.Init

@[expose] public section

set_option maxRecDepth 20000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## A tile over the reals -/

theorem coe_sum {ι : Type} (t : Finset ι) (g : ι → ℝ) : ((∑ k ∈ t, g k : ℝ) : EReal) = ∑ k ∈ t, (g k : EReal) := by
  classical
  induction t using Finset.induction_on with
  | empty => simp
  | insert a t ha ih => rw [Finset.sum_insert ha, Finset.sum_insert ha, EReal.coe_add, ih]

/-- A row of the first operand times a scaled column of the second. -/
def dotS (s : ℝ) (x y : Fin 256 → BitVec 8) : ℝ := ∑ k : Fin 256, ((x k).toInt : ℝ) * (((y k).toInt : ℝ) * s)

theorem tile_apply (x : Vec Ideal S256x256 .i8) (w : Vec Ideal S256x512 .i8) (a b : Elt Ideal .f32) (s : ℝ) (h : (a * b : EReal) = (s : EReal)) (i : Fin 256) (j : Fin 512) :
    tile x w a b (ix2 i j) = ((dotS s (fun k => x (ix2 i k)) fun k => w (ix2 k j) : ℝ) : EReal) := by
  pointwise [tile]
  simp only [dotS, coe_sum, EReal.coe_mul]
  refine Finset.sum_congr rfl fun k _ => ?_
  rw [h]
  rfl

/-! ## The rows a journey adds -/

/-- The first row of `x` device `d` reads at the `n`-th step of flow `f`. -/
def cOff (f : Fin 4) : ℕ → Dev nD → ℕ
  | 0, d => k0_off1 d 0
  | n + 1, d => xOff d f (m15 n) 0

theorem cOff_succ (f : Fin 4) (s : Fin 15) (d : Dev nD) : cOff f (s.val + 1) d = cOff f s.val (prv f d) := by
  revert f s d; decide +kernel
theorem cOff_last (f : Fin 4) (r : Dev nD) : cOff f 15 (prv f r) = 256 * r.val := by revert f r; decide +kernel
theorem off1_col (d : Dev nD) : k0_off1 d 1 = 0 := by revert d; decide +kernel
theorem xOff_col (d : Dev nD) (f : Fin 4) (s : Fin 15) : xOff d f s 1 = 0 := by revert d f s; decide +kernel
theorem back_inj (f : Fin 4) (d : Dev nD) : Function.Injective fun m : Fin 16 => back f m.val d := by
  revert f d; unfold Function.Injective; decide +kernel

/-- The sum over a whole journey is the sum over all devices. -/
theorem sum_back (f : Fin 4) (d : Dev nD) (g : Dev nD → ℝ) : ∑ m ∈ Finset.range 16, g (back f m d) = ∑ e : Dev nD, g e := by
  rw [Finset.sum_range]
  exact Fintype.sum_bijective (fun m : Fin 16 => back f m.val d) (Finite.injective_iff_bijective.mp (back_inj f d)) _ _ fun _ => rfl

/-! ## The loads -/

/-- Row `r` of device `e`'s operand. -/
def xr (I : Inp Ideal) (e : Dev nD) (r : ℕ) (k : Fin 256) : BitVec 8 :=
  if h : r < 4096 then (I.x e : S4096x256.Idx → BitVec 8) (ix2 ⟨r, h⟩ k) else 0
/-- Column `q` of device `e`'s weights. -/
def wc (I : Inp Ideal) (e : Dev nD) (q : ℕ) (k : Fin 256) : BitVec 8 :=
  if h : q < 2048 then (I.w e : S256x2048.Idx → BitVec 8) (ix2 k ⟨q, h⟩) else 0

variable (I : Inp Ideal)

theorem x0v_apply (d : Dev nD) (f : Fin 4) (i k : Fin 256) : x0v I d (ix2 i k) = xr I d (cOff f 0 d + i.val) k := by
  have hb : k0_off1 d 0 + i.val < 4096 := by have h : k0_off1 d 0 + 256 ≤ 4096 := k0_off1_inb d 0; omega
  unfold xr cOff
  rw [dif_pos hb]
  show (I.x d : S4096x256.Idx → BitVec 8) _ = _
  refine congrArg (I.x d : S4096x256.Idx → BitVec 8) (funext fun a => Fin.ext ?_)
  match a with
  | 0 => exact congrArg (k0_off1 d 0 + ·) (Nat.one_mul i.val)
  | 1 => exact (congrArg₂ (· + ·) (off1_col d) (Nat.one_mul k.val)).trans (Nat.zero_add k.val)

theorem xsv_apply (d : Dev nD) (f : Fin 4) (n : ℕ) (i k : Fin 256) : xsv I d f (m15 n) (ix2 i k) = xr I d (cOff f (n + 1) d + i.val) k := by
  have hb : xOff d f (m15 n) 0 + i.val < 4096 := by have h : xOff d f (m15 n) 0 + 256 ≤ 4096 := xOff_inb d f (m15 n) 0; omega
  unfold xr cOff
  rw [dif_pos hb]
  show (I.x d : S4096x256.Idx → BitVec 8) _ = _
  refine congrArg (I.x d : S4096x256.Idx → BitVec 8) (funext fun a => Fin.ext ?_)
  match a with
  | 0 => exact congrArg (xOff d f (m15 n) 0 + ·) (Nat.one_mul i.val)
  | 1 => exact (congrArg₂ (· + ·) (xOff_col d f (m15 n)) (Nat.one_mul k.val)).trans (Nat.zero_add k.val)

theorem wv_apply (d : Dev nD) (f : Fin 4) (k : Fin 256) (j : Fin 512) : wv I d f (ix2 k j) = wc I d (512 * f.val + j.val) k := by
  have hb : 512 * f.val + j.val < 2048 := by omega
  unfold wc
  rw [dif_pos hb]
  show (I.w d : S256x2048.Idx → BitVec 8) _ = _
  refine congrArg (I.w d : S256x2048.Idx → BitVec 8) (funext fun a => Fin.ext ?_)
  match a with
  | 0 => exact (congrArg₂ (· + ·) rfl (Nat.one_mul k.val)).trans (Nat.zero_add k.val)
  | 1 => exact congrArg (512 * f.val + ·) (Nat.one_mul j.val)

/-! ## A journey's sum -/

/-- Device `e`'s share of the result at row `r`, column `q`. -/
def share (s : ℝ) (e : Dev nD) (r q : ℕ) : ℝ := dotS s (xr I e r) (wc I e q)

theorem ps_zero (s : ℝ) (hs : ∀ d, (sxv I d * swv I d : EReal) = (s : EReal)) (f : Fin 4) (d : Dev nD) (i : Fin 256) (j : Fin 512) :
    (ps I f 0 d (ix2 i j) : EReal) = ((share I s d (cOff f 0 d + i.val) (512 * f.val + j.val) : ℝ) : EReal) := by
  show (tile (x0v I d) (wv I d f) (sxv I d) (swv I d) (ix2 i j) : EReal) = _
  rw [tile_apply _ _ _ _ s (hs d)]
  unfold share
  congr 2
  · funext k; exact x0v_apply I d f i k
  · funext k; exact wv_apply I d f k j

theorem ps_next (s : ℝ) (hs : ∀ d, (sxv I d * swv I d : EReal) = (s : EReal)) (f : Fin 4) (n : ℕ) (d : Dev nD) (i : Fin 256) (j : Fin 512) :
    (ps I f (n + 1) d (ix2 i j) : EReal) = (ps I f n (prv f d) (ix2 i j) : EReal) + ((share I s d (cOff f (n + 1) d + i.val) (512 * f.val + j.val) : ℝ) : EReal) := by
  show (ps I f n (prv f d) (ix2 i j) : EReal) + (tile (xsv I d f (m15 n)) (wv I d f) (sxv I d) (swv I d) (ix2 i j) : EReal) = _
  rw [tile_apply _ _ _ _ s (hs d)]
  unfold share
  congr 3
  · funext k; exact xsv_apply I d f n i k
  · funext k; exact wv_apply I d f k j

/-- After `n` steps a chunk is the sum of the shares of the devices it has visited, all of the same rows. -/
theorem ps_sum (s : ℝ) (hs : ∀ d, (sxv I d * swv I d : EReal) = (s : EReal)) (f : Fin 4) (i : Fin 256) (j : Fin 512) (n : ℕ) (hn : n ≤ 15) (d : Dev nD) :
    (ps I f n d (ix2 i j) : EReal) = ((∑ m ∈ Finset.range (n + 1), share I s (back f m d) (cOff f n d + i.val) (512 * f.val + j.val) : ℝ) : EReal) := by
  induction n generalizing d with
  | zero =>
    rw [ps_zero I s hs, Finset.sum_range_one]
    rfl
  | succ n ih =>
    rw [ps_next I s hs, ih (by omega), ← EReal.coe_add, Finset.sum_range_succ' _ (n + 1)]
    have h : cOff f (n + 1) d = cOff f n (prv f d) := cOff_succ f ⟨n, by omega⟩ d
    rw [← h]
    rfl

/-- The result at row `r`, column `q`: every device's share, added. -/
theorem res_apply (s : ℝ) (hs : ∀ d, (sxv I d * swv I d : EReal) = (s : EReal)) (r : Fin 4096) (q : Fin 2048) :
    ((res I : S4096x2048.Idx → EReal) (ix2 r q)) = ((∑ e : Dev nD, share I s e r.val q.val : ℝ) : EReal) := by
  have hf : 512 * (flowAt (ix2 r q)).val + q.val % 512 = q.val := Nat.div_add_mod q.val 512
  have hr : 256 * (rowAt (ix2 r q)).val + r.val % 256 = r.val := Nat.div_add_mod r.val 256
  have hi : inBlk (ix2 r q) = ix2 ⟨r.val % 256, Nat.mod_lt _ (by decide)⟩ ⟨q.val % 512, Nat.mod_lt _ (by decide)⟩ := by
    funext a; apply Fin.ext; match a with
    | 0 => rfl
    | 1 => rfl
  show (ps I (flowAt (ix2 r q)) 15 (prv (flowAt (ix2 r q)) (rowAt (ix2 r q))) (inBlk (ix2 r q)) : EReal) = _
  rw [hi, ps_sum I s hs _ _ _ 15 le_rfl, cOff_last]
  simp only [hf, hr]
  rw [sum_back _ _ fun e => share I s e r.val q.val]

end Cert.KernelIdeal.Ring
-- ==== Proof.Value.lean ====
/-
  The kernel's result against the reference's: the devices' shares are the blocks of one product of whole arrays.
-/
module

public import proofs.«01_k».proof.Proof.Sum
public import Idealize.ShloMosaic.Lib.Layout
public import Idealize.ShloMosaic.Lib.Pipeline.ValueKit.Acc

@[expose] public section

set_option maxRecDepth 20000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The blocks of whole arrays -/

section Whole

variable (I : Inp Ideal) (X : (⟨2, ![4096, 4096]⟩ : Shape).Idx → BitVec 8) (W : (⟨2, ![4096, 2048]⟩ : Shape).Idx → BitVec 8)

/-- Row `r` of the whole operand at column `k`, zero outside. -/
def wholeX (r : ℕ) (k : ℕ) : ℝ := if h : r < 4096 ∧ k < 4096 then ((X (ix2 ⟨r, h.1⟩ ⟨k, h.2⟩)).toInt : ℝ) else 0
/-- Column `q` of the whole weights at row `k`, zero outside. -/
def wholeW (q : ℕ) (k : ℕ) : ℝ := if h : k < 4096 ∧ q < 2048 then ((W (ix2 ⟨k, h.1⟩ ⟨q, h.2⟩)).toInt : ℝ) else 0

theorem xr_block (hX : ∀ c : Dev nD, (I.x c : S4096x256.Idx → BitVec 8) = Layout.block ⟨2, ![4096, 256]⟩ ⟨2, ![4096, 4096]⟩ 1 16 c X)
    (e : Dev nD) (r : Fin 4096) (k : Fin 256) : ((xr I e r.val k).toInt : ℝ) = wholeX X r.val (e.val * 256 + k.val) := by
  have he : e.val < 16 := e.isLt
  unfold xr wholeX
  rw [dif_pos r.isLt, dif_pos ⟨r.isLt, by omega⟩, hX, Layout.block_apply]
  refine congrArg (fun i => ((X i).toInt : ℝ)) (funext fun a => Fin.ext ?_)
  match a with
  | 0 => exact (Layout.idx_cols_val _ e _).1
  | 1 => exact (Layout.idx_cols_val _ e _).2

theorem wc_block (hW : ∀ c : Dev nD, (I.w c : S256x2048.Idx → BitVec 8) = Layout.block ⟨2, ![256, 2048]⟩ ⟨2, ![4096, 2048]⟩ 0 16 c W)
    (e : Dev nD) (q : Fin 2048) (k : Fin 256) : ((wc I e q.val k).toInt : ℝ) = wholeW W q.val (e.val * 256 + k.val) := by
  have he : e.val < 16 := e.isLt
  unfold wc wholeW
  rw [dif_pos q.isLt, dif_pos ⟨by omega, q.isLt⟩, hW, Layout.block_apply]
  refine congrArg (fun i => ((W i).toInt : ℝ)) (funext fun a => Fin.ext ?_)
  match a with
  | 0 => exact (Layout.idx_rows_val _ e _).1
  | 1 => exact (Layout.idx_rows_val _ e _).2

/-- All devices' shares together: the whole row times the whole column, scaled. -/
theorem share_sum (hX : ∀ c : Dev nD, (I.x c : S4096x256.Idx → BitVec 8) = Layout.block ⟨2, ![4096, 256]⟩ ⟨2, ![4096, 4096]⟩ 1 16 c X)
    (hW : ∀ c : Dev nD, (I.w c : S256x2048.Idx → BitVec 8) = Layout.block ⟨2, ![256, 2048]⟩ ⟨2, ![4096, 2048]⟩ 0 16 c W)
    (s : ℝ) (r : Fin 4096) (q : Fin 2048) :
    ∑ e : Dev nD, share I s e r.val q.val = (∑ k : Fin 4096, ((X (ix2 r k)).toInt : ℝ) * ((W (ix2 k q)).toInt : ℝ)) * s := by
  have h1 : ∀ e : Dev nD, share I s e r.val q.val = ∑ k : Fin 256, wholeX X r.val (e.val * 256 + k.val) * (wholeW W q.val (e.val * 256 + k.val) * s) := fun e => by
    unfold share dotS
    exact Finset.sum_congr rfl fun k _ => by rw [xr_block I X hX, wc_block I W hW]
  have h2 := Fin.sum_univ_univ_mul_add 16 256 fun k => wholeX X r.val k * (wholeW W q.val k * s)
  rw [Finset.sum_congr rfl fun e _ => h1 e]
  refine h2.trans ?_
  rw [Finset.sum_mul]
  refine Finset.sum_congr rfl fun k _ => ?_
  have hk : k.val < 4096 := k.isLt
  show wholeX X r.val k.val * (wholeW W q.val k.val * s) = _
  unfold wholeX wholeW
  rw [dif_pos ⟨r.isLt, hk⟩, dif_pos ⟨hk, q.isLt⟩, mul_assoc]

end Whole

end Cert.KernelIdeal.Ring
-- ==== Proof.Operands.lean ====
/-
  The kernel's operands read from the memory the launch starts from.
-/
module

public import proofs.«01_k».proof.Proof.Launch
public import proofs.«01_k».proof.Proof.Value

@[expose] public section

set_option maxRecDepth 20000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The operands as the call finds them -/

section Operands

variable (m : (ℓ : Loc nD τ sig) → Buf (Elt Ideal) ℓ) (ρ : Dev nD → PrngReg)

theorem inp_x (c : Dev nD) : (inpOf m ρ).x c = m ((c : Thread nD τ).loc main_arg0) := by
  funext i
  show (m ((c : Thread nD τ).loc main_arg0) : S4096x256.Idx → BitVec 8) _ = (m ((c : Thread nD τ).loc main_arg0) : S4096x256.Idx → BitVec 8) i
  refine congrArg (m ((c : Thread nD τ).loc main_arg0) : S4096x256.Idx → BitVec 8) (funext fun a => Fin.ext ?_)
  match a with
  | 0 => exact (congrArg (0 + ·) (Nat.one_mul (i 0).val)).trans (Nat.zero_add _)
  | 1 => exact (congrArg (0 + ·) (Nat.one_mul (i 1).val)).trans (Nat.zero_add _)

theorem inp_w (c : Dev nD) : (inpOf m ρ).w c = m ((c : Thread nD τ).loc main_arg1) := by
  funext i
  show (m ((c : Thread nD τ).loc main_arg1) : S256x2048.Idx → BitVec 8) _ = (m ((c : Thread nD τ).loc main_arg1) : S256x2048.Idx → BitVec 8) i
  refine congrArg (m ((c : Thread nD τ).loc main_arg1) : S256x2048.Idx → BitVec 8) (funext fun a => Fin.ext ?_)
  match a with
  | 0 => exact (congrArg (0 + ·) (Nat.one_mul (i 0).val)).trans (Nat.zero_add _)
  | 1 => exact (congrArg (0 + ·) (Nat.one_mul (i 1).val)).trans (Nat.zero_add _)

theorem one_idx (i j : S1.Idx) : i = j := by
  funext a; apply Fin.ext
  match a with
  | 0 =>
    have hi : (i 0).val < 1 := (i 0).isLt
    have hj : (j 0).val < 1 := (j 0).isLt
    omega

theorem inp_a (c : Dev nD) (i : S1.Idx) : sxv (inpOf m ρ) c = (m ((c : Thread nD τ).loc main_arg2) : S1.Idx → EReal) i := by
  show (m ((c : Thread nD τ).loc main_arg2) : S1.Idx → EReal) _ = _
  exact congrArg (m ((c : Thread nD τ).loc main_arg2) : S1.Idx → EReal) (one_idx _ _)

theorem inp_b (c : Dev nD) (i : S1.Idx) : swv (inpOf m ρ) c = (m ((c : Thread nD τ).loc main_arg3) : S1.Idx → EReal) i := by
  show (m ((c : Thread nD τ).loc main_arg3) : S1.Idx → EReal) _ = _
  exact congrArg (m ((c : Thread nD τ).loc main_arg3) : S1.Idx → EReal) (one_idx _ _)

end Operands

end Cert.KernelIdeal.Ring
-- ==== Proof.Equal.lean ====
/-
  What the precondition says of the two scales, and the reference's result over the reals.
-/
module

public import proofs.«01_k».proof.Defs
public import proofs.«01_k».proof.Proof.Sum
public import proofs.«01_k».proof.Proof.Gen.ReferenceIdeal.Run
public import proofs.«01_k».proof.Proof.Gen.Pre_scales_bounded_KernelIdeal
public import Idealize.ShloMosaic.Lib.ReduceAll

@[expose] public section

noncomputable section

namespace Cert.Equal

open Idealize.ShloMosaic

/-! ## The scales -/

theorem inf_bits : (FloatOps.ofBits .f32 (0x7F800000#32) : Ideal .f32) = (⊤ : EReal) := by
  show Ideal.ofBits .f32 _ = _
  simp [Ideal.ofBits, Ideal.ieee]

theorem real_of_abs_lt (p : EReal) (h : max p (-p) < ⊤) : ∃ s : ℝ, p = (s : EReal) := by
  induction p using EReal.rec with
  | bot => simp at h
  | coe s => exact ⟨s, rfl⟩
  | top => simp at h

/-- Two scales of which the precondition holds have a real product. -/
theorem scales_real (x : IVec Pre_scales_bounded_KernelIdeal.S4096x256 8) (w : IVec Pre_scales_bounded_KernelIdeal.S256x2048 8)
    (a b : FVec Ideal Pre_scales_bounded_KernelIdeal.S1 .f32)
    (h : Pre_scales_bounded_KernelIdeal.fn (F := Ideal) x w a b = fun _ => 1#1) (i : Pre_scales_bounded_KernelIdeal.S1.Idx) :
    ∃ s : ℝ, (a i * b i : EReal) = (s : EReal) := by
  haveI : Subsingleton Pre_scales_bounded_KernelIdeal.S_.Idx := ⟨fun u v => funext fun k => k.elim0⟩
  have e := Host.reduce_andi_all _ _ _ _ (fun k => k.elim0) (congrFun h fun k => k.elim0) i
  have e2 : Ideal.cmp .olt (max (a i * b i : EReal) (-(a i * b i : EReal))) (FloatOps.ofBits .f32 (0x7F800000#32) : Ideal .f32) = 1#1 := e
  rw [inf_bits] at e2
  refine real_of_abs_lt _ ?_
  by_contra hn
  simp [Ideal.cmp, hn] at e2

/-! ## The reference -/

open Cert.ReferenceIdeal Cert.ReferenceIdeal.Gen

/-- The reference's result, as its run leaves it. -/
def refRes (X : IVec S4096x4096 8) (W : IVec S4096x2048 8) (A B : FVec Ideal S1 .f32) : FVec Ideal S4096x2048 .f32 :=
  mulf (Host.dotGeneral dot_S4096x4096_S4096x2048_S4096x2048_1_0_0_1_n_n none (sitofp .f32 (extsi 32 X natLt_8_32)) (sitofp .f32 (extsi 32 W natLt_8_32)))
    (broadcastInDim S4096x2048 ![0, 1] bcast_S1x1_S4096x2048_0_1 (broadcastInDim S1x1 ![1] bcast_S1_S1x1_1 (mulf A B)))

theorem wide_int (v : BitVec 8) : (v.signExtend 32).toInt = v.toInt := BitVec.toInt_signExtend_of_le (by decide)

theorem refRes_apply (X : IVec S4096x4096 8) (W : IVec S4096x2048 8) (A B : FVec Ideal S1 .f32) (s : ℝ)
    (h : ∀ i, (A i * B i : EReal) = (s : EReal)) (r : Fin 4096) (q : Fin 2048) :
    (refRes X W A B (ix2 r q) : EReal) = (((∑ k : Fin 4096, ((X (ix2 r k)).toInt : ℝ) * ((W (ix2 k q)).toInt : ℝ)) * s : ℝ) : EReal) := by
  pointwise [refRes]
  rw [h, EReal.coe_mul, KernelIdeal.Ring.coe_sum]
  refine congrArg (· * (s : EReal)) (Finset.sum_congr rfl fun k _ => ?_)
  rw [← wide_int (X (ix2 r k)), ← wide_int (W (ix2 k q)), EReal.coe_mul]
  rfl

end Cert.Equal
-- ==== Proof.Match.lean ====
/-
  The kernel's result equals the reference's, from memories whose operands agree.
-/
module

public import proofs.«01_k».proof.Proof.Operands
public import proofs.«01_k».proof.Proof.Equal

@[expose] public section

noncomputable section

namespace Cert.Equal

open Idealize.ShloMosaic Idealize.ShloMosaic.TcCoe
open Cert.KernelIdeal.Ring

/-- One entry of the kernel's result is the reference's entry. -/
theorem res_eq (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal_scales_bounded_KernelIdeal m)
    (hagree : ∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) :
    res (inpOf m g) = refRes (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)) := by
  obtain ⟨A, hA'⟩ : ∃ A : Cert.KernelIdeal.S1.Idx → EReal, A = m' (((0 : Dev Cert.ReferenceIdeal.nD).tc : Thread Cert.ReferenceIdeal.nD Cert.ReferenceIdeal.τ).loc Cert.ReferenceIdeal.main_arg2) := ⟨_, rfl⟩
  obtain ⟨B, hB'⟩ : ∃ B : Cert.KernelIdeal.S1.Idx → EReal, B = m' (((0 : Dev Cert.ReferenceIdeal.nD).tc : Thread Cert.ReferenceIdeal.nD Cert.ReferenceIdeal.τ).loc Cert.ReferenceIdeal.main_arg3) := ⟨_, rfl⟩
  have hA : ∀ c : Dev Cert.KernelIdeal.nD, (m ((c.tc : Thread Cert.KernelIdeal.nD Cert.KernelIdeal.τ).loc Cert.KernelIdeal.main_arg2) : Cert.KernelIdeal.S1.Idx → EReal) = A := fun c => (hagree c).2.2.1.trans hA'.symm
  have hB : ∀ c : Dev Cert.KernelIdeal.nD, (m ((c.tc : Thread Cert.KernelIdeal.nD Cert.KernelIdeal.τ).loc Cert.KernelIdeal.main_arg3) : Cert.KernelIdeal.S1.Idx → EReal) = B := fun c => (hagree c).2.2.2.trans hB'.symm
  obtain ⟨s, hs⟩ : ∃ s : ℝ, A (ix1 0) * B (ix1 0) = (s : EReal) := by
    obtain ⟨s, hs⟩ := scales_real _ _ _ _ (hpre 0) (ix1 0)
    exact ⟨s, (congrArg₂ (fun a b : Cert.KernelIdeal.S1.Idx → EReal => a (ix1 0) * b (ix1 0)) (hA 0) (hB 0)).symm.trans hs⟩
  have href : ∀ i : Cert.KernelIdeal.S1.Idx, A i * B i = (s : EReal) := fun i => by
    rw [one_idx i (ix1 0)]
    exact hs
  have hker : ∀ d, (sxv (inpOf m g) d * swv (inpOf m g) d : EReal) = (s : EReal) := fun d => by
    rw [inp_a m g d (ix1 0), inp_b m g d (ix1 0)]
    exact (congrArg₂ (fun a b : Cert.KernelIdeal.S1.Idx → EReal => a (ix1 0) * b (ix1 0)) (hA d) (hB d)).trans hs
  rw [← hA', ← hB']
  funext i
  obtain ⟨r, q, rfl⟩ : ∃ (r : Fin 4096) (q : Fin 2048), i = ix2 r q := ⟨i 0, i 1, funext fun a => by match a with | 0 => rfl | 1 => rfl⟩
  refine (res_apply (inpOf m g) s hker r q).trans ?_
  rw [share_sum (inpOf m g) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (fun c => (inp_x m g c).trans (hagree c).1) (fun c => (inp_w m g c).trans (hagree c).2.1) s r q]
  exact (refRes_apply _ _ _ _ s href r q).symm

end Cert.Equal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.K.Launch
public import proofs.«01_k».proof.Proof.Operands
public import proofs.«01_k».proof.Proof.Match
public import proofs.«01_k».proof.Proof.Gen.Pre_scales_bounded_KernelIdeal
public import proofs.«01_k».proof.Proof.Gen.Pre_scales_bounded_ReferenceIdeal
public import Idealize.ShloMosaic.Adequacy
public import Idealize.ShloMosaic.Init

@[expose] public section

noncomputable section

namespace Cert.Proof

open Idealize.ShloMosaic Idealize.SL.Sem Cert.Kernel

/-- The kernel, as printed, runs to a quiet end with its arguments unchanged. -/
theorem kernel_frame : Cert.quiescent_Kernel := fun m g _ =>
  (θ_run Cert.Kernel.defs _ _).mono (fun r h => ⟨fun c => (h.1 c).1, h.2⟩) (Cert.Kernel.Ring.run_main (F := Bits) m g)

/-- So does the kernel over the reals. -/
theorem kernelIdeal_frame : Cert.quiescent_KernelIdeal := fun m g _ =>
  (θ_run Cert.KernelIdeal.defs _ _).mono (fun r h => ⟨fun c => (h.1 c).1, h.2⟩) (Cert.KernelIdeal.Ring.run_main (F := Ideal) m g)

/-- The reference runs to its end with its arguments unchanged; it has no semaphore. -/
theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- On every device the kernel's result is the reference's. -/
theorem kernel_algebraic : Cert.algebraic_KernelIdeal_ReferenceIdeal_pre_scales_bounded_KernelIdeal := by
  intro m g m' g' hpre hagree
  refine ⟨Cert.Equal.refRes (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · have hval := Cert.Equal.res_eq m g m' hpre hagree
    exact (θ_run Cert.KernelIdeal.defs _ _).mono (fun r h c => ⟨(h.1 c).2.trans hval, (h.1 c).1⟩) (Cert.KernelIdeal.Ring.run_main (F := Ideal) m g)
  · exact (θ_run Cert.ReferenceIdeal.defs _ _).mono (fun r h => h 0) (Cert.ReferenceIdeal.Value.run (F := Ideal) m' g')

theorem claim : Cert.Claim := ⟨Cert.Kernel.Gen.facts, Cert.KernelIdeal.Gen.facts, Cert.ReferenceIdeal.Gen.facts, Cert.Pre_scales_bounded_KernelIdeal.Gen.facts, Cert.Pre_scales_bounded_ReferenceIdeal.Gen.facts,
  kernel_frame, kernelIdeal_frame, fun m g _ => kernelIdeal_frame m g trivial, reference_frame, fun m g _ => reference_frame m g trivial, trivial, kernel_algebraic⟩

end Cert.Proof

end
